-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S1024x1024 : Shape := ⟨2, ![1024, 1024]⟩
abbrev S3x1024x1024 : Shape := ⟨3, ![3, 1024, 1024]⟩
abbrev S3 : Shape := ⟨1, ![3]⟩
abbrev S_ : Shape := ⟨0, ![]⟩
abbrev S1 : Shape := ⟨1, ![1]⟩
abbrev S1x1024x1024 : Shape := ⟨3, ![1, 1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S3x1024x1024, .bf16⟩
  | .local _ .vmem, ⟨5, _⟩ => ⟨S3x1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 1

abbrev nD : Nat := 8
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k0_dev1 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v41 : BitVec 32 := Scalar.muli v2 c4_i32_19
  let v42 : BitVec 32 := Scalar.addi c0_i32_20 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v43 : BitVec 32 := Scalar.muli v5 c2_i32_21
  let v44 : BitVec 32 := Scalar.addi v42 v43
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v45 : BitVec 32 := Scalar.muli v9 c1_i32_22
  let v46 : BitVec 32 := Scalar.addi v44 v45
  v46.toNat
def k0_cond2 (i : grid0.Coords) : BitVec 1 :=
  let arg0 : BitVec 32 := BitVec.ofNat 32 (i 0).val
  let c3_i32 : BitVec 32 := 3#32
  let v13 : BitVec 1 := Scalar.cmpi .sge arg0 c3_i32
  let c33_i32 : BitVec 32 := 33#32
  let v14 : BitVec 1 := Scalar.cmpi .sle arg0 c33_i32
  let v15 : BitVec 1 := Scalar.andi v13 v14
  let v16 : BitVec 32 := Scalar.extui v15
  let c0_i32_5 : BitVec 32 := 0#32
  let v17 : BitVec 1 := Scalar.cmpi .ne v16 c0_i32_5
  v17

def k0_off1 (i : grid0.Coords) : Fin 1 → Nat :=
  let arg0 : BitVec 32 := BitVec.ofNat 32 (i 0).val
  let c3_i32_18 : BitVec 32 := 3#32
  let v40 : BitVec 32 := Scalar.subi arg0 c3_i32_18
  let c3_i32_19 : BitVec 32 := 3#32
  let c0_i32_20 : BitVec 32 := 0#32
  let v41 : BitVec 1 := Scalar.cmpi .eq c3_i32_19 c0_i32_20
  let c1_i32_21 : BitVec 32 := 1#32
  let v42 : BitVec 32 := Scalar.select v41 c1_i32_21 c3_i32_19
  let v43 : BitVec 32 := Scalar.remsi v40 v42
  let c0_i32_23 : BitVec 32 := 0#32
  let v45 : BitVec 1 := Scalar.cmpi .slt v43 c0_i32_23
  let c0_i32_24 : BitVec 32 := 0#32
  let v46 : BitVec 1 := Scalar.cmpi .slt v42 c0_i32_24
  let v47 : BitVec 1 := Scalar.xori v45 v46
  let c0_i32_22 : BitVec 32 := 0#32
  let v44 : BitVec 1 := Scalar.cmpi .ne v43 c0_i32_22
  let v48 : BitVec 1 := Scalar.andi v47 v44
  let v49 : BitVec 32 := Scalar.addi v43 v42
  let v50 : BitVec 32 := Scalar.select v48 v49 v43
  ![v50.toNat]
def k0_off2 (i : grid0.Coords) : Fin 3 → Nat :=
  let arg0 : BitVec 32 := BitVec.ofNat 32 (i 0).val
  let c3_i32_18 : BitVec 32 := 3#32
  let v40 : BitVec 32 := Scalar.subi arg0 c3_i32_18
  let c3_i32_19 : BitVec 32 := 3#32
  let c0_i32_20 : BitVec 32 := 0#32
  let v41 : BitVec 1 := Scalar.cmpi .eq c3_i32_19 c0_i32_20
  let c1_i32_21 : BitVec 32 := 1#32
  let v42 : BitVec 32 := Scalar.select v41 c1_i32_21 c3_i32_19
  let v43 : BitVec 32 := Scalar.remsi v40 v42
  let c0_i32_23 : BitVec 32 := 0#32
  let v45 : BitVec 1 := Scalar.cmpi .slt v43 c0_i32_23
  let c0_i32_24 : BitVec 32 := 0#32
  let v46 : BitVec 1 := Scalar.cmpi .slt v42 c0_i32_24
  let v47 : BitVec 1 := Scalar.xori v45 v46
  let c0_i32_22 : BitVec 32 := 0#32
  let v44 : BitVec 1 := Scalar.cmpi .ne v43 c0_i32_22
  let v48 : BitVec 1 := Scalar.andi v47 v44
  let v49 : BitVec 32 := Scalar.addi v43 v42
  let v50 : BitVec 32 := Scalar.select v48 v49 v43
  let c0_i32_26 : BitVec 32 := 0#32
  let c0_i32_27 : BitVec 32 := 0#32
  ![v50.toNat, 0, 0]
def k0_cond3 (i : grid0.Coords) : BitVec 1 :=
  let arg0 : BitVec 32 := BitVec.ofNat 32 (i 0).val
  let c32_i32 : BitVec 32 := 32#32
  let v18 : BitVec 1 := Scalar.cmpi .slt arg0 c32_i32
  let v19 : BitVec 32 := Scalar.extui v18
  let c0_i32_6 : BitVec 32 := 0#32
  let v20 : BitVec 1 := Scalar.cmpi .ne v19 c0_i32_6
  v20

def k0_off3 (i : grid0.Coords) : Fin 3 → Nat :=
  let arg0 : BitVec 32 := BitVec.ofNat 32 (i 0).val
  let c3_i32_19 : BitVec 32 := 3#32
  let c0_i32_20 : BitVec 32 := 0#32
  let v43 : BitVec 1 := Scalar.cmpi .eq c3_i32_19 c0_i32_20
  let c1_i32_21 : BitVec 32 := 1#32
  let v44 : BitVec 32 := Scalar.select v43 c1_i32_21 c3_i32_19
  let v45 : BitVec 32 := Scalar.remsi arg0 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  let v53 : Index := Scalar.indexCast v52
  let c0_25 : Index := 0#32
  let c0_26 : Index := 0#32
  ![v53.toNat, 0, 0]
def k0_cond4 (i : grid0.Coords) : BitVec 1 :=
  let arg0 : BitVec 32 := BitVec.ofNat 32 (i 0).val
  let c3_i32_7 : BitVec 32 := 3#32
  let v21 : BitVec 1 := Scalar.cmpi .sge arg0 c3_i32_7
  let c31_i32 : BitVec 32 := 31#32
  let v22 : BitVec 1 := Scalar.cmpi .sle arg0 c31_i32
  let v23 : BitVec 1 := Scalar.andi v21 v22
  let v24 : BitVec 32 := Scalar.extui v23
  let c0_i32_8 : BitVec 32 := 0#32
  let v25 : BitVec 1 := Scalar.cmpi .ne v24 c0_i32_8
  v25

def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v40 : BitVec 32 := Scalar.muli v2 c4_i32_19
  let v41 : BitVec 32 := Scalar.addi c0_i32_20 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v42 : BitVec 32 := Scalar.muli v5 c2_i32_21
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_22 : BitVec 32 := 1#32
  let v44 : BitVec 32 := Scalar.muli v9 c1_i32_22
  let v45 : BitVec 32 := Scalar.addi v43 v44
  v45.toNat
def k0_cond6 (i : grid0.Coords) : BitVec 1 :=
  let arg0 : BitVec 32 := BitVec.ofNat 32 (i 0).val
  let c32_i32_12 : BitVec 32 := 32#32
  let v31 : BitVec 1 := Scalar.cmpi .slt arg0 c32_i32_12
  let v32 : BitVec 32 := Scalar.extui v31
  let c0_i32_13 : BitVec 32 := 0#32
  let v33 : BitVec 1 := Scalar.cmpi .ne v32 c0_i32_13
  v33

def k0_off4 (i : grid0.Coords) : Fin 1 → Nat :=
  let arg0 : BitVec 32 := BitVec.ofNat 32 (i 0).val
  let c3_i32_18 : BitVec 32 := 3#32
  let c0_i32_19 : BitVec 32 := 0#32
  let v40 : BitVec 1 := Scalar.cmpi .eq c3_i32_18 c0_i32_19
  let c1_i32_20 : BitVec 32 := 1#32
  let v41 : BitVec 32 := Scalar.select v40 c1_i32_20 c3_i32_18
  let v42 : BitVec 32 := Scalar.remsi arg0 v41
  let c0_i32_22 : BitVec 32 := 0#32
  let v44 : BitVec 1 := Scalar.cmpi .slt v42 c0_i32_22
  let c0_i32_23 : BitVec 32 := 0#32
  let v45 : BitVec 1 := Scalar.cmpi .slt v41 c0_i32_23
  let v46 : BitVec 1 := Scalar.xori v44 v45
  let c0_i32_21 : BitVec 32 := 0#32
  let v43 : BitVec 1 := Scalar.cmpi .ne v42 c0_i32_21
  let v47 : BitVec 1 := Scalar.andi v46 v43
  let v48 : BitVec 32 := Scalar.addi v42 v41
  let v49 : BitVec 32 := Scalar.select v47 v48 v42
  ![v49.toNat]
def k0_off5 (i : grid0.Coords) : Fin 3 → Nat :=
  let arg0 : BitVec 32 := BitVec.ofNat 32 (i 0).val
  let c3_i32_18 : BitVec 32 := 3#32
  let c0_i32_19 : BitVec 32 := 0#32
  let v40 : BitVec 1 := Scalar.cmpi .eq c3_i32_18 c0_i32_19
  let c1_i32_20 : BitVec 32 := 1#32
  let v41 : BitVec 32 := Scalar.select v40 c1_i32_20 c3_i32_18
  let v42 : BitVec 32 := Scalar.remsi arg0 v41
  let c0_i32_22 : BitVec 32 := 0#32
  let v44 : BitVec 1 := Scalar.cmpi .slt v42 c0_i32_22
  let c0_i32_23 : BitVec 32 := 0#32
  let v45 : BitVec 1 := Scalar.cmpi .slt v41 c0_i32_23
  let v46 : BitVec 1 := Scalar.xori v44 v45
  let c0_i32_21 : BitVec 32 := 0#32
  let v43 : BitVec 1 := Scalar.cmpi .ne v42 c0_i32_21
  let v47 : BitVec 1 := Scalar.andi v46 v43
  let v48 : BitVec 32 := Scalar.addi v42 v41
  let v49 : BitVec 32 := Scalar.select v47 v48 v42
  let c0_i32_28 : BitVec 32 := 0#32
  let c0_i32_29 : BitVec 32 := 0#32
  ![v49.toNat, 0, 0]
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v50 : BitVec 32 := Scalar.muli v2 c4_i32_24
  let v51 : BitVec 32 := Scalar.addi c0_i32_25 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v52 : BitVec 32 := Scalar.muli v5 c2_i32_26
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v54 : BitVec 32 := Scalar.muli v9 c1_i32_27
  let v55 : BitVec 32 := Scalar.addi v53 v54
  v55.toNat
def k0_cond7 (i : grid0.Coords) : BitVec 1 :=
  let arg0 : BitVec 32 := BitVec.ofNat 32 (i 0).val
  let c2_i32_14 : BitVec 32 := 2#32
  let v34 : BitVec 1 := Scalar.cmpi .sge arg0 c2_i32_14
  let v35 : BitVec 32 := Scalar.extui v34
  let c0_i32_15 : BitVec 32 := 0#32
  let v36 : BitVec 1 := Scalar.cmpi .ne v35 c0_i32_15
  v36

def k0_off6 (i : grid0.Coords) : Fin 1 → Nat :=
  let arg0 : BitVec 32 := BitVec.ofNat 32 (i 0).val
  let c2_i32_25 : BitVec 32 := 2#32
  let v51 : BitVec 32 := Scalar.subi arg0 c2_i32_25
  let c3_i32_26 : BitVec 32 := 3#32
  let c0_i32_27 : BitVec 32 := 0#32
  let v52 : BitVec 1 := Scalar.cmpi .eq c3_i32_26 c0_i32_27
  let c1_i32_28 : BitVec 32 := 1#32
  let v53 : BitVec 32 := Scalar.select v52 c1_i32_28 c3_i32_26
  let v54 : BitVec 32 := Scalar.remsi v51 v53
  let c0_i32_30 : BitVec 32 := 0#32
  let v56 : BitVec 1 := Scalar.cmpi .slt v54 c0_i32_30
  let c0_i32_31 : BitVec 32 := 0#32
  let v57 : BitVec 1 := Scalar.cmpi .slt v53 c0_i32_31
  let v58 : BitVec 1 := Scalar.xori v56 v57
  let c0_i32_29 : BitVec 32 := 0#32
  let v55 : BitVec 1 := Scalar.cmpi .ne v54 c0_i32_29
  let v59 : BitVec 1 := Scalar.andi v58 v55
  let v60 : BitVec 32 := Scalar.addi v54 v53
  let v61 : BitVec 32 := Scalar.select v59 v60 v54
  ![v61.toNat]
def k0_off7 (i : grid0.Coords) : Fin 3 → Nat :=
  let arg0 : BitVec 32 := BitVec.ofNat 32 (i 0).val
  let c2_i32_25 : BitVec 32 := 2#32
  let v51 : BitVec 32 := Scalar.subi arg0 c2_i32_25
  let c3_i32_26 : BitVec 32 := 3#32
  let c0_i32_27 : BitVec 32 := 0#32
  let v52 : BitVec 1 := Scalar.cmpi .eq c3_i32_26 c0_i32_27
  let c1_i32_28 : BitVec 32 := 1#32
  let v53 : BitVec 32 := Scalar.select v52 c1_i32_28 c3_i32_26
  let v54 : BitVec 32 := Scalar.remsi v51 v53
  let c0_i32_30 : BitVec 32 := 0#32
  let v56 : BitVec 1 := Scalar.cmpi .slt v54 c0_i32_30
  let c0_i32_31 : BitVec 32 := 0#32
  let v57 : BitVec 1 := Scalar.cmpi .slt v53 c0_i32_31
  let v58 : BitVec 1 := Scalar.xori v56 v57
  let c0_i32_29 : BitVec 32 := 0#32
  let v55 : BitVec 1 := Scalar.cmpi .ne v54 c0_i32_29
  let v59 : BitVec 1 := Scalar.andi v58 v55
  let v60 : BitVec 32 := Scalar.addi v54 v53
  let v61 : BitVec 32 := Scalar.select v59 v60 v54
  let c0_i32_36 : BitVec 32 := 0#32
  let c0_i32_37 : BitVec 32 := 0#32
  ![v61.toNat, 0, 0]
def k0_off8 (i : grid0.Coords) : Fin 3 → Nat :=
  let arg0 : BitVec 32 := BitVec.ofNat 32 (i 0).val
  let c2_i32_18 : BitVec 32 := 2#32
  let v40 : BitVec 32 := Scalar.subi arg0 c2_i32_18
  let c3_i32_19 : BitVec 32 := 3#32
  let c0_i32_20 : BitVec 32 := 0#32
  let v41 : BitVec 1 := Scalar.cmpi .eq c3_i32_19 c0_i32_20
  let c1_i32_21 : BitVec 32 := 1#32
  let v42 : BitVec 32 := Scalar.select v41 c1_i32_21 c3_i32_19
  let v43 : BitVec 32 := Scalar.remsi v40 v42
  let c0_i32_23 : BitVec 32 := 0#32
  let v45 : BitVec 1 := Scalar.cmpi .slt v43 c0_i32_23
  let c0_i32_24 : BitVec 32 := 0#32
  let v46 : BitVec 1 := Scalar.cmpi .slt v42 c0_i32_24
  let v47 : BitVec 1 := Scalar.xori v45 v46
  let c0_i32_22 : BitVec 32 := 0#32
  let v44 : BitVec 1 := Scalar.cmpi .ne v43 c0_i32_22
  let v48 : BitVec 1 := Scalar.andi v47 v44
  let v49 : BitVec 32 := Scalar.addi v43 v42
  let v50 : BitVec 32 := Scalar.select v48 v49 v43
  let v74 : Index := Scalar.indexCast v50
  let c0 : Index := 0#32
  let c0_40 : Index := 0#32
  ![v74.toNat, 0, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Setup.lean ====
/-
The ground of the proof about the kernel of `KernelIdeal`: who exchanges with whom, the names of the
semaphore cells and of the slots of the two scratch buffers, what a slot holds, and the closed forms of the
printed conditions and offsets on the 34 grid points.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Release
public import Idealize.ShloMosaic.Lib.Tactic

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pairs -/

set_option backward.proofsInPublic true in
/-- The device a device exchanges with: the other one along `z`. -/
def peer (c : Dev nD) : Dev nD := ⟨c.val / 2 * 2 + (1 - c.val % 2), by have := c.isLt; change c.val < 8 at this; change _ < 8; omega⟩

theorem peer_peer (c : Dev nD) : peer (peer c) = c := by revert c; decide

/-- The exchange of partners, as a bijection of the devices. -/
def pairs : Dev nD ≃ Dev nD := ⟨peer, peer, peer_peer, peer_peer⟩

theorem dev1_peer (c : Dev nD) (h : k0_dev1 c < nD) : (⟨k0_dev1 c, h⟩ : Dev nD) = peer c :=
  Fin.ext ((k0_dev1_eq c).trans (by change _ = c.val / 2 * 2 + (1 - c.val % 2); have := c.isLt; change c.val < 8 at this; omega))
theorem dev2_peer (c : Dev nD) (h : k0_dev2 c < nD) : (⟨k0_dev2 c, h⟩ : Dev nD) = peer c :=
  Fin.ext ((k0_dev2_eq c).trans (by change _ = c.val / 2 * 2 + (1 - c.val % 2); have := c.isLt; change c.val < 8 at this; omega))
theorem dev3_peer (c : Dev nD) (h : k0_dev3 c < nD) : (⟨k0_dev3 c, h⟩ : Dev nD) = peer c :=
  Fin.ext ((k0_dev3_eq c).trans (by change _ = c.val / 2 * 2 + (1 - c.val % 2); have := c.isLt; change c.val < 8 at this; omega))

/-! ## The slots -/

set_option backward.proofsInPublic true in
/-- The slot of chunk `j`. -/
def sl (j : ℕ) : Fin 3 := ⟨j % 3, Nat.mod_lt _ (by decide)⟩

theorem sl_add (j : ℕ) : sl (j + 3) = sl j := Fin.ext (Nat.add_mod_right j 3)

/-- The offsets of slot `s` in a three-slot buffer, and of its semaphore in a three-cell array. -/
abbrev offV (s : Fin 3) : Fin 3 → ℕ := ![s.val, 0, 0]
abbrev offS (s : Fin 3) : Fin 1 → ℕ := ![s.val]

theorem offV_inb : ∀ (s : Fin 3) (a : Fin 3), offV s a + S1x1024x1024.size a ≤ S3x1024x1024.size a := by decide
theorem offS_inb : ∀ (s : Fin 3) (a : Fin 1), offS s a + S1.size a ≤ S3.size a := by decide

/-- The rectangle of slot `s`. -/
abbrev row (s : Fin 3) : Rect S3x1024x1024 := Rect.unit (s := S3x1024x1024) (offV s) S1x1024x1024.size (offV_inb s)

/-- A staging slot and a landing slot, as the copies and the waits name them. -/
abbrev stM (s : Fin 3) : Memref sig .tc .vmem S1024x1024 .bf16 :=
  ((Memref.whole cc0_scratch0).slice (row s) (fun _ => rfl)).squeeze S1024x1024 squeezes_S1x1024x1024_S1024x1024
abbrev rvM (s : Fin 3) : Memref sig .tc .vmem S1024x1024 .bf16 :=
  ((Memref.whole cc0_scratch1).slice (row s) (fun _ => rfl)).squeeze S1024x1024 squeezes_S1x1024x1024_S1024x1024

/-- The elements of slot `s`. -/
def cellsOf (s : Fin 3) : Finset S3x1024x1024.Idx := (row s).set

theorem mem_cellsOf {s : Fin 3} {i : S3x1024x1024.Idx} : i ∈ cellsOf s ↔ (i 0).val = s.val := by
  unfold cellsOf
  rw [Rect.mem_set_unit]
  constructor
  · intro h
    have h0 := h 0
    change s.val ≤ (i 0).val ∧ (i 0).val < s.val + 1 at h0
    omega
  · intro h a
    match a with
    | ⟨0, _⟩ => change s.val ≤ (i 0).val ∧ (i 0).val < s.val + 1; omega
    | ⟨1, _⟩ => change 0 ≤ (i 1).val ∧ (i 1).val < 0 + 1024; have := (i 1).isLt; change (i 1).val < 1024 at this; omega
    | ⟨2, _⟩ => change 0 ≤ (i 2).val ∧ (i 2).val < 0 + 1024; have := (i 2).isLt; change (i 2).val < 1024 at this; omega

theorem stM_set (s : Fin 3) : (stM s).view.set = cellsOf s := by
  show ((View.whole cc0_scratch0).slice (row s) |>.reshape S1024x1024 _).set = _
  rw [View.set_reshape, View.set_slice_whole]; rfl
theorem rvM_set (s : Fin 3) : (rvM s).view.set = cellsOf s := by
  show ((View.whole cc0_scratch1).slice (row s) |>.reshape S1024x1024 _).set = _
  rw [View.set_reshape, View.set_slice_whole]; rfl

theorem cellsOf_nonempty (s : Fin 3) : (cellsOf s).Nonempty := by
  have hp : ∀ a : Fin 3, 0 < S1x1024x1024.size a := by decide
  refine ⟨(row s).emb (fun a => ⟨0, hp a⟩), ?_⟩
  unfold cellsOf; rw [← Rect.map_emb_univ]; exact Finset.mem_map_of_mem _ (Finset.mem_univ _)

theorem cellsOf_disjoint {s s' : Fin 3} (h : s ≠ s') : Disjoint (cellsOf s) (cellsOf s') :=
  Finset.disjoint_left.mpr fun i hi hi' => h (Fin.ext ((mem_cellsOf.mp hi).symm.trans (mem_cellsOf.mp hi')))

theorem cellsOf_cover : (Finset.univ : Finset (Fin 3)).biUnion cellsOf = Finset.univ := by
  ext i
  simp only [Finset.mem_biUnion, Finset.mem_univ, true_and, iff_true]
  exact ⟨⟨(i 0).val, (i 0).isLt⟩, mem_cellsOf.mpr rfl⟩

/-! ## What a slot holds -/

set_option backward.proofsInPublic true in
/-- The contents with the block `w` in every slot. -/
def spread (w : Vec F S1x1024x1024 .bf16) : S3x1024x1024.Idx → Elt F .bf16 :=
  fun i => w fun a => match a with
    | ⟨0, _⟩ => ⟨0, Nat.one_pos⟩
    | ⟨1, _⟩ => ⟨(i 1).val, (i 1).isLt⟩
    | ⟨2, _⟩ => ⟨(i 2).val, (i 2).isLt⟩

theorem spread_emb (w : Vec F S1x1024x1024 .bf16) (s : Fin 3) (x : (row s).shape.Idx) : spread w ((row s).emb x) = w x := by
  unfold spread
  refine congrArg w (funext fun a => Fin.ext ?_)
  match a with
  | ⟨0, _⟩ => have := (x 0).isLt; change (x 0).val < 1 at this; change 0 = (x 0).val; omega
  | ⟨1, _⟩ => exact (ValueKit.rect_emb_unit_val _ _ _ x 1).trans (Nat.zero_add _)
  | ⟨2, _⟩ => exact (ValueKit.rect_emb_unit_val _ _ _ x 2).trans (Nat.zero_add _)

/-- What a vector load reads out of slot `s` of either scratch buffer. -/
theorem readAt_st (w : Vec F S1x1024x1024 .bf16) (s : Fin 3) :
    (Memref.whole cc0_scratch0 : Memref sig .tc .vmem S3x1024x1024 .bf16).view.readAt (Elt F) (row s).toLoadRect (spread w) = w :=
  funext fun x => spread_emb w s x
theorem readAt_rv (w : Vec F S1x1024x1024 .bf16) (s : Fin 3) :
    (Memref.whole cc0_scratch1 : Memref sig .tc .vmem S3x1024x1024 .bf16).view.readAt (Elt F) (row s).toLoadRect (spread w) = w :=
  funext fun x => spread_emb w s x

/-- Storing the block `w` into slot `s` leaves `w` there. -/
theorem write_st (w : Vec F S1x1024x1024 .bf16) (s : Fin 3) (f : S3x1024x1024.Idx → Elt F .bf16) :
    ∀ i ∈ cellsOf s, ((Memref.whole cc0_scratch0 : Memref sig .tc .vmem S3x1024x1024 .bf16).access (row s)).write (Elt F) f w Finset.univ i = spread w i := by
  intro i hi
  unfold cellsOf at hi
  rw [← Rect.map_emb_univ] at hi
  obtain ⟨x, -, rfl⟩ := Finset.mem_map.mp hi
  rw [spread_emb]
  exact View.write_emb_of_mem (v := ((Memref.whole cc0_scratch0 : Memref sig .tc .vmem S3x1024x1024 .bf16).access (row s))) f w (Finset.mem_univ x)

/-- A copy from a staging slot into the same landing slot brings what the staging slot held. -/
theorem landed (s : Fin 3) (fs fd : S3x1024x1024.Idx → Elt F .bf16) :
    ∀ i ∈ cellsOf s, (rvM s).view.write (Elt F) fd ((stM s).view.read (Elt F) fs) Finset.univ i = fs i := by
  intro i hi
  rw [← rvM_set] at hi
  obtain ⟨x, -, rfl⟩ := Finset.mem_map.mp hi
  exact View.write_emb_of_mem (v := (rvM s).view) fd _ (Finset.mem_univ x)

/-! ## The cells -/

abbrev barS : Sem sig := (SemArray.scalar (sig.barrier 0 rfl) : Sems sig S_).sem
abbrev crdS : Sem sig := cc0_scratch4.sem
abbrev sndS (s : Fin 3) : DmaSem sig := ((cc0_scratch2.slice (Rect.unit (s := S3) (offS s) S1.size (offS_inb s))).squeeze S_ squeezes_S1_S_).sem
abbrev rcvS (s : Fin 3) : DmaSem sig := ((cc0_scratch3.slice (Rect.unit (s := S3) (offS s) S1.size (offS_inb s))).squeeze S_ squeezes_S1_S_).sem

theorem sndS_val : ∀ s : Fin 3, (sndS s).val = 4 + s.val := by decide +kernel
theorem rcvS_val : ∀ s : Fin 3, (rcvS s).val = 7 + s.val := by decide +kernel
theorem crdS_val : (crdS : Sem sig).val = 0 := by decide +kernel
theorem barS_val : (barS : Sem sig).val = 1 := by decide +kernel

abbrev barC (c : Dev nD) : GSem nD τ sig := ((c : Thread nD τ), .reg barS)
abbrev crdC (c : Dev nD) : GSem nD τ sig := ((c : Thread nD τ), .reg crdS)
abbrev sndC (c : Dev nD) (s : Fin 3) : GSem nD τ sig := ((c : Thread nD τ), .dma (sndS s))
abbrev rcvC (c : Dev nD) (s : Fin 3) : GSem nD τ sig := ((c : Thread nD τ), .dma (rcvS s))

/-- The units one block's copy moves through its cells. -/
abbrev N : ℕ := (rvM 0).view.dmaCredit
theorem N_pos : 0 < N := View.dmaCredit_pos _ (by decide)
theorem N_rv (s : Fin 3) : (rvM s).view.dmaCredit = N := rfl
theorem N_st (s : Fin 3) : (stM s).view.dmaCredit = N := rfl

/-! ## The printed conditions and offsets on the grid -/

theorem cond1_iff : ∀ t : Fin grid0.N, k0_cond1 (grid0.coords t) = 1#1 ↔ t.val = 0 := by decide +kernel
theorem cond2_iff : ∀ t : Fin grid0.N, k0_cond2 (grid0.coords t) = 1#1 ↔ 3 ≤ t.val := by decide +kernel
theorem cond3_iff : ∀ t : Fin grid0.N, k0_cond3 (grid0.coords t) = 1#1 ↔ t.val < 32 := by decide +kernel
theorem cond4_iff : ∀ t : Fin grid0.N, k0_cond4 (grid0.coords t) = 1#1 ↔ 3 ≤ t.val ∧ t.val < 32 := by decide +kernel
theorem cond6_iff : ∀ t : Fin grid0.N, k0_cond6 (grid0.coords t) = 1#1 ↔ t.val < 32 := by decide +kernel
theorem cond7_iff : ∀ t : Fin grid0.N, k0_cond7 (grid0.coords t) = 1#1 ↔ 2 ≤ t.val := by decide +kernel

theorem off1_eq : ∀ t : Fin grid0.N, 3 ≤ t.val → k0_off1 (grid0.coords t) = offS (sl (t.val - 3)) := by decide +kernel
theorem off2_eq : ∀ t : Fin grid0.N, 3 ≤ t.val → k0_off2 (grid0.coords t) = offV (sl (t.val - 3)) := by decide +kernel
theorem off3_eq : ∀ t : Fin grid0.N, k0_off3 (grid0.coords t) = offV (sl t.val) := by decide +kernel
theorem off4_eq : ∀ t : Fin grid0.N, k0_off4 (grid0.coords t) = offS (sl t.val) := by decide +kernel
theorem off5_eq : ∀ t : Fin grid0.N, k0_off5 (grid0.coords t) = offV (sl t.val) := by decide +kernel
theorem off6_eq : ∀ t : Fin grid0.N, 2 ≤ t.val → k0_off6 (grid0.coords t) = offS (sl (t.val - 2)) := by decide +kernel
theorem off7_eq : ∀ t : Fin grid0.N, 2 ≤ t.val → k0_off7 (grid0.coords t) = offV (sl (t.val - 2)) := by decide +kernel
theorem off8_eq : ∀ t : Fin grid0.N, 2 ≤ t.val → k0_off8 (grid0.coords t) = offV (sl (t.val - 2)) := by decide +kernel

end Cert.SwapIdeal

end
-- ==== Proof.Ideal.Schedule.lean ====
/-
The schedule of the kernel's semaphore cells: who pays which unit onto which cell in which round, and what
each unit hands over. Also what a device owes at launch and the order in which the cells are waited for.
-/
module

public import proofs.«01_k».proof.Proof.Ideal.Setup
public import proofs.«01_k».proof.Proof.Gen.KernelIdeal.Frame

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's own, the rounds of the kernel's cells, the landing slots -/

abbrev UU : Type := UR sig nD τ × (URounds (GSem nD τ sig) ℕ × Release.USlots (Dev nD × Fin 3))

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := Emb.inl.trans embR
def ES : Emb (Release.USlots (Dev nD × Fin 3)) (MT nD τ sig ℕ (Elt F) ℕ UU ℕ) := Emb.inr.trans embR

instance ER_lands : (ER (F := F)).LandsIn (upEmb : UEmb _ 𝕄) := by unfold ER; infer_instance
instance ES_lands : (ES (F := F)).LandsIn (upEmb : UEmb _ 𝕄) := by unfold ES; infer_instance

variable (m : (ℓ : Loc nD τ sig) → Buf (Elt F) ℓ)

/-! ## What is sent -/

set_option backward.proofsInPublic true in
/-- Chunk `j` of device `c`'s block, as the pipeline stages it. -/
def xb (c : Dev nD) (j : ℕ) : Vec F S1024x1024 .f32 := iblk m c 0 ⟨j % 34, by rw [show cfg0.N = 34 from N_0]; exact Nat.mod_lt _ (by decide)⟩

/-- The same chunk narrowed: what is kept in its staging slot and copied to the partner. -/
def wb (c : Dev nD) (j : ℕ) : Vec F S1x1024x1024 .bf16 := k0_pay2 (xb m c j)

/-- Slot `s` of device `c`'s staging and landing buffers, at share `q` and contents `f`. -/
def stPts (c : Dev nD) (s : Fin 3) (q : PosShare TreeShare) (f : Buf (Elt F) ((c : Thread nD τ).loc cc0_scratch0)) : sProp 𝕄 :=
  ((c : Thread nD τ).loc cc0_scratch0) ↦[cellsOf s]{q} f
def rvPts (c : Dev nD) (s : Fin 3) (f : Buf (Elt F) ((c : Thread nD τ).loc cc0_scratch1)) : sProp 𝕄 :=
  ((c : Thread nD τ).loc cc0_scratch1) ↦[cellsOf s]{fullShare} f

/-- A landing slot at any contents: what a reader frees and a writer takes. -/
def rvAny (c : Dev nD) (s : Fin 3) : sProp 𝕄 := Release.slot ((c : Thread nD τ).loc cc0_scratch1) (cellsOf s)

omit [FloatOps F] in
instance stPts_storable (c : Dev nD) (s : Fin 3) (q) (f) : BI.Storable (upEmb : UEmb _ 𝕄) (stPts (F := F) c s q f) := by unfold stPts; infer_instance
omit [FloatOps F] in
instance rvPts_storable (c : Dev nD) (s : Fin 3) (f) : BI.Storable (upEmb : UEmb _ 𝕄) (rvPts (F := F) c s f) := by unfold rvPts; infer_instance

/-! ## What each unit hands over -/

/-- Chunk `j` may be written into device `p`'s landing slot: `p` has freed the slot for it and has waited for
    the chunk before it. -/
def Avail (p : Dev nD) (j : ℕ) : sProp 𝕄 := iprop(Release.released ES (p, sl j) (j / 3 + 1) ∗ reached ER (rcvC p (sl j)) (j / 3))

omit [FloatOps F] in
instance Avail_persistent (p : Dev nD) (j : ℕ) : BI.Persistent (Avail (F := F) p j) := by unfold Avail; infer_instance
omit [FloatOps F] in
instance Avail_storable (p : Dev nD) (j : ℕ) : BI.Storable (upEmb : UEmb _ 𝕄) (Avail (F := F) p j) := by unfold Avail; infer_instance

/-- Every chunk below `n` may be written. -/
def AvailTo (p : Dev nD) (n : ℕ) : sProp 𝕄 := bigSep (Finset.range n) (Avail (F := F) p)

omit [FloatOps F] in
instance AvailTo_persistent (p : Dev nD) (n : ℕ) : BI.Persistent (AvailTo (F := F) p n) := by unfold AvailTo; infer_instance
omit [FloatOps F] in
instance AvailTo_storable (p : Dev nD) (n : ℕ) : BI.Storable (upEmb : UEmb _ 𝕄) (AvailTo (F := F) p n) := by unfold AvailTo; infer_instance

/-! ## The kinds of cells -/

/-- The kernel's cells by kind; `none` is every other semaphore. -/
inductive Kd where
  | bar | crd | snd (s : Fin 3) | rcv (s : Fin 3) | none

/-- Which kind a counting semaphore is. -/
def kdReg (s : Sem sig) : Kd := if s = barS then .bar else if s = crdS then .crd else .none

set_option backward.proofsInPublic true in
/-- Which kind a copy's semaphore is. -/
def kdDma (q : DmaSem sig) : Kd :=
  if h : 4 ≤ q.val ∧ q.val < 7 then .snd ⟨q.val - 4, by omega⟩ else if h : 7 ≤ q.val ∧ q.val < 10 then .rcv ⟨q.val - 7, by omega⟩ else .none

/-- Which kind a semaphore is. -/
def kd : SemLoc sig → Kd
  | .reg s => kdReg s
  | .dma q => kdDma q

theorem kd_bar : kd (.reg barS) = .bar := by show kdReg barS = _; unfold kdReg; exact if_pos rfl
theorem kd_crd : kd (.reg crdS) = .crd := by
  show kdReg crdS = _
  unfold kdReg; rw [if_neg (by decide +kernel)]; exact if_pos rfl
theorem kd_snd (s : Fin 3) : kd (.dma (sndS s)) = .snd s := by
  have hs := s.isLt
  show kdDma (sndS s) = _
  unfold kdDma
  rw [dif_pos (by rw [sndS_val]; omega)]
  exact congrArg Kd.snd (Fin.ext (by show (sndS s).val - 4 = s.val; rw [sndS_val]; omega))
theorem kd_rcv (s : Fin 3) : kd (.dma (rcvS s)) = .rcv s := by
  have hs := s.isLt
  show kdDma (rcvS s) = _
  unfold kdDma
  rw [dif_neg (by rw [rcvS_val]; omega), dif_pos (by rw [rcvS_val]; omega)]
  exact congrArg Kd.rcv (Fin.ext (by show (rcvS s).val - 7 = s.val; rw [rcvS_val]; omega))

/-! ## The schedule -/

/-- The rounds of one kind of cell. A barrier cell has one, of one unit; a credit cell one, of a unit for each
    chunk from 3 on; round `r` of slot `s`'s copy cells is chunk `3 r + s`. -/
def dut (k : Kd) (r : ℕ) : Finset ℕ :=
  match k with
  | .bar => if r = 0 then {0} else ∅
  | .crd => if r = 0 then Finset.Ico 3 32 else ∅
  | .snd s => if 3 * r + s.val < 32 then {0} else ∅
  | .rcv s => if 3 * r + s.val < 32 then {0} else ∅
  | .none => ∅

/-- The units of one duty, a copy counting `n`. -/
def amtOf (n : ℕ) (k : Kd) : ℕ :=
  match k with
  | .bar => 1
  | .crd => 1
  | _ => n

theorem amtOf_snd (n : ℕ) (s : Fin 3) : amtOf n (.snd s) = n := rfl
theorem amtOf_rcv (n : ℕ) (s : Fin 3) : amtOf n (.rcv s) = n := rfl
theorem amtOf_pos (n : ℕ) (h : 0 < n) (k : Kd) : 0 < amtOf n k := by
  unfold amtOf
  cases k
  · exact Nat.one_pos
  · exact Nat.one_pos
  · exact h
  · exact h
  · exact h

/-- The units of one duty. -/
def amt (k : Kd) : ℕ := amtOf N k

theorem amt_snd (s : Fin 3) : amt (.snd s) = N := amtOf_snd N s
theorem amt_rcv (s : Fin 3) : amt (.rcv s) = N := amtOf_rcv N s

/-- What a duty hands to the cell's owner `c`. -/
def pay (c : Dev nD) (k : Kd) (r d : ℕ) : sProp 𝕄 :=
  match k with
  | .bar => AvailTo (peer c) 3
  | .crd => AvailTo (peer c) (d + 1)
  | .snd s => stPts c s fullShare.right (spread (wb m c (3 * r + s.val)))
  | .rcv s => rvPts c s (spread (wb m (peer c) (3 * r + s.val)))
  | .none => iprop(emp)

instance pay_storable (c : Dev nD) (k : Kd) (r d : ℕ) : BI.Storable (upEmb : UEmb _ 𝕄) (pay m c k r d) := by
  unfold pay
  cases k <;> infer_instance

theorem amt_pos (k : Kd) : 0 < amt k := amtOf_pos N N_pos k

/-- The kernel's schedule: only TensorCore cells have rounds. -/
def Rd : Rounds.Schedule (GSem nD τ sig) ℕ 𝕄 where
  duties g r := if g.1.2 = .tc then dut (kd g.2) r else ∅
  unitless _ := False
  amount g _ _ := amt (kd g.2)
  payload g r d := pay m g.1.1 (kd g.2) r d
  amount_pos g _ _ _ := amt_pos _

instance Rd_payload_storable (g : GSem nD τ sig) (r d : ℕ) : BI.Storable (upEmb : UEmb _ 𝕄) ((Rd (F := F) m).payload g r d) :=
  pay_storable m g.1.1 (kd g.2) r d

theorem Rd_not_unitless (g : GSem nD τ sig) : ¬ (Rd (F := F) m).unitless g := id

section Tables
variable (c : Dev nD)

theorem duties_tc (sm : SemLoc sig) (r : ℕ) : (Rd m).duties ((c : Thread nD τ), sm) r = dut (kd sm) r := by dsimp only [Rd]; exact if_pos rfl
theorem amount_tc (sm : SemLoc sig) (r d : ℕ) : (Rd m).amount ((c : Thread nD τ), sm) r d = amt (kd sm) := rfl
theorem payload_tc (sm : SemLoc sig) (r d : ℕ) : (Rd m).payload ((c : Thread nD τ), sm) r d = pay m c (kd sm) r d := rfl

theorem duties_bar : (Rd m).duties (barC c) 0 = {0} := by rw [duties_tc, kd_bar]; dsimp only [dut]; exact if_pos rfl
theorem duties_crd : (Rd m).duties (crdC c) 0 = Finset.Ico 3 32 := by rw [duties_tc, kd_crd]; dsimp only [dut]; exact if_pos rfl
theorem duties_snd (j : ℕ) (hj : j < 32) : (Rd m).duties (sndC c (sl j)) (j / 3) = {0} := by
  rw [duties_tc, kd_snd]; exact if_pos (by show 3 * (j / 3) + j % 3 < 32; omega)
theorem duties_rcv (j : ℕ) (hj : j < 32) : (Rd m).duties (rcvC c (sl j)) (j / 3) = {0} := by
  rw [duties_tc, kd_rcv]; exact if_pos (by show 3 * (j / 3) + j % 3 < 32; omega)

/-- After its rounds a cell has no duty left. -/
theorem duties_bar_later (r : ℕ) (hr : 1 ≤ r) : (Rd m).duties (barC c) r = ∅ := by
  rw [duties_tc, kd_bar]; exact if_neg (by omega)
theorem duties_crd_later (r : ℕ) (hr : 1 ≤ r) : (Rd m).duties (crdC c) r = ∅ := by
  rw [duties_tc, kd_crd]; exact if_neg (by omega)
theorem duties_snd_later (j : ℕ) (hj : 32 ≤ j) (r : ℕ) (hr : j / 3 ≤ r) : (Rd m).duties (sndC c (sl j)) r = ∅ := by
  rw [duties_tc, kd_snd]; exact if_neg (by show ¬ 3 * r + j % 3 < 32; omega)
theorem duties_rcv_later (j : ℕ) (hj : 32 ≤ j) (r : ℕ) (hr : j / 3 ≤ r) : (Rd m).duties (rcvC c (sl j)) r = ∅ := by
  rw [duties_tc, kd_rcv]; exact if_neg (by show ¬ 3 * r + j % 3 < 32; omega)

theorem amount_bar (r d : ℕ) : (Rd m).amount (barC c) r d = 1 := by rw [amount_tc, kd_bar]; rfl
theorem amount_crd (r d : ℕ) : (Rd m).amount (crdC c) r d = 1 := by rw [amount_tc, kd_crd]; rfl
theorem amount_snd (s : Fin 3) (r d : ℕ) : (Rd m).amount (sndC c s) r d = N := by rw [amount_tc, kd_snd, amt_snd]
theorem amount_rcv (s : Fin 3) (r d : ℕ) : (Rd m).amount (rcvC c s) r d = N := by rw [amount_tc, kd_rcv, amt_rcv]

theorem expect_bar : (Rd m).expect (barC c) 0 = 1 := by
  unfold Schedule.expect Schedule.amountOf; rw [duties_bar, Finset.sum_singleton, amount_bar]
theorem expect_crd : (Rd m).expect (crdC c) 0 = 29 := by
  unfold Schedule.expect Schedule.amountOf
  rw [duties_crd, Finset.sum_congr rfl fun d _ => amount_crd m c 0 d]; rfl
theorem expect_snd (j : ℕ) (hj : j < 32) : (Rd m).expect (sndC c (sl j)) (j / 3) = N := by
  unfold Schedule.expect Schedule.amountOf; rw [duties_snd m c j hj, Finset.sum_singleton, amount_snd]
theorem expect_rcv (j : ℕ) (hj : j < 32) : (Rd m).expect (rcvC c (sl j)) (j / 3) = N := by
  unfold Schedule.expect Schedule.amountOf; rw [duties_rcv m c j hj, Finset.sum_singleton, amount_rcv]

theorem payload_bar (r d : ℕ) : (Rd m).payload (barC c) r d = AvailTo (peer c) 3 := by rw [payload_tc, kd_bar]; rfl
theorem payload_crd (r d : ℕ) : (Rd m).payload (crdC c) r d = AvailTo (peer c) (d + 1) := by rw [payload_tc, kd_crd]; rfl
theorem payload_snd (j d : ℕ) : (Rd m).payload (sndC c (sl j)) (j / 3) d = stPts c (sl j) fullShare.right (spread (wb m c j)) := by
  rw [payload_tc, kd_snd]
  show stPts c (sl j) fullShare.right (spread (wb m c (3 * (j / 3) + j % 3))) = _
  rw [Nat.div_add_mod]
theorem payload_rcv (j d : ℕ) : (Rd m).payload (rcvC c (sl j)) (j / 3) d = rvPts c (sl j) (spread (wb m (peer c) j)) := by
  rw [payload_tc, kd_rcv]
  show rvPts c (sl j) (spread (wb m (peer c) (3 * (j / 3) + j % 3))) = _
  rw [Nat.div_add_mod]

/-- What waiting for a whole round brings. -/
theorem rest_bar : bigSep ((Rd m).duties (barC c) 0 \ ∅) (fun d => (Rd m).payload (barC c) 0 d) = AvailTo (peer c) 3 := by
  rw [Finset.sdiff_empty, duties_bar, bigSep_singleton, payload_bar]
theorem rest_snd (j : ℕ) (hj : j < 32) : bigSep ((Rd m).duties (sndC c (sl j)) (j / 3) \ ∅) (fun d => (Rd m).payload (sndC c (sl j)) (j / 3) d)
    = stPts c (sl j) fullShare.right (spread (wb m c j)) := by
  rw [Finset.sdiff_empty, duties_snd m c j hj, bigSep_singleton, payload_snd]
theorem rest_rcv (j : ℕ) (hj : j < 32) : bigSep ((Rd m).duties (rcvC c (sl j)) (j / 3) \ ∅) (fun d => (Rd m).payload (rcvC c (sl j)) (j / 3) d)
    = rvPts c (sl j) (spread (wb m (peer c) j)) := by
  rw [Finset.sdiff_empty, duties_rcv m c j hj, bigSep_singleton, payload_rcv]

end Tables

/-! ## What a device owes, and the order of the waits -/

/-- The landing credits still owed to the partner when chunk `n` is the next to be copied. -/
def owR (c : Dev nD) (n : ℕ) : CellTallies nD τ sig ℕ := ∑ j ∈ Finset.Ico n 32, tallyAt (rcvC (peer c) (sl j)) j N
/-- The slot credits still owed when chunk `k`'s is the next. -/
def owC (c : Dev nD) (k : ℕ) : CellTallies nD τ sig ℕ := ∑ i ∈ Finset.Ico k 32, tallyAt (crdC (peer c)) i 1
/-- Both. -/
def Ow (c : Dev nD) (n k : ℕ) : CellTallies nD τ sig ℕ := owR c n + owC c k
/-- At launch a barrier unit too. -/
def O₀ (c : Dev nD) : CellTallies nD τ sig ℕ := Ow c 0 3 + tallyAt (barC (peer c)) 0 1

theorem Ow_pop_rcv (c : Dev nD) (n k : ℕ) (hn : n < 32) : Ow c n k = Ow c (n + 1) k + tallyAt (rcvC (peer c) (sl n)) n N := by
  unfold Ow owR
  rw [Finset.sum_eq_sum_Ico_succ_bot hn]
  abel
theorem Ow_pop_crd (c : Dev nD) (n k : ℕ) (hk : k < 32) : Ow c n k = Ow c n (k + 1) + tallyAt (crdC (peer c)) k 1 := by
  unfold Ow owC
  rw [Finset.sum_eq_sum_Ico_succ_bot hk]
  abel
theorem Ow_end (c : Dev nD) : Ow c 32 32 = 0 := by
  unfold Ow owR owC; rw [Finset.Ico_self, Finset.sum_empty, Finset.sum_empty, add_zero]

def L (g : GSem nD τ sig) : Finset ℕ := if g.1.2 = .tc then Finset.range 32 else ∅

/-- The order: barriers first, then chunk by chunk its slot credit and its landing. -/
def lv (g : GSem nD τ sig) (ι : ℕ) : ℕ :=
  match kd g.2 with
  | .bar => 1
  | .crd => 2 * ι + 1
  | .rcv _ => 2 * ι + 2
  | _ => 0

theorem L_of_ne (g : GSem nD τ sig) (h : g.1.2 ≠ .tc) : L g = ∅ := if_neg h
theorem L_tc (c : Dev nD) (sm : SemLoc sig) : L ((c : Thread nD τ), sm) = Finset.range 32 := if_pos rfl

theorem lv_bar (c : Dev nD) (ι : ℕ) : lv (barC c) ι = 1 := by unfold lv; rw [show kd (barC c).2 = .bar from kd_bar]
theorem lv_crd (c : Dev nD) (ι : ℕ) : lv (crdC c) ι = 2 * ι + 1 := by unfold lv; rw [show kd (crdC c).2 = .crd from kd_crd]
theorem lv_snd (c : Dev nD) (s : Fin 3) (ι : ℕ) : lv (sndC c s) ι = 0 := by unfold lv; rw [show kd (sndC c s).2 = .snd s from kd_snd s]
theorem lv_rcv (c : Dev nD) (s : Fin 3) (ι : ℕ) : lv (rcvC c s) ι = 2 * ι + 2 := by unfold lv; rw [show kd (rcvC c s).2 = .rcv s from kd_rcv s]

theorem sum_tally_pos {s : Finset ℕ} {T : ℕ → CellTallies nD τ sig ℕ} {g : GSem nD τ sig} {u : ℕ} (h : 0 < (∑ j ∈ s, T j) g u) :
    ∃ j ∈ s, 0 < T j g u := by
  by_contra hn
  have h0 : ∀ j ∈ s, T j g u = 0 := fun j hj => Nat.eq_zero_of_not_pos fun hp => hn ⟨j, hj, hp⟩
  rw [Finset.sum_apply, Finsupp.finset_sum_apply, Finset.sum_eq_zero h0] at h
  exact Nat.lt_irrefl 0 h

theorem tally_pos {g g' : GSem nD τ sig} {u u' k : ℕ} (h : 0 < tallyAt g u k g' u') : g' = g ∧ u' = u := by
  rw [tallyAt_apply] at h
  by_contra hn
  rw [if_neg (fun h' => hn ⟨h'.1, h'.2⟩)] at h
  exact Nat.lt_irrefl 0 h

/-- Where a device still owes something. -/
theorem Ow_pos {c : Dev nD} {n k : ℕ} {g : GSem nD τ sig} {u : ℕ} (h : 0 < Ow c n k g u) :
    (n ≤ u ∧ u < 32 ∧ ∃ s, g = rcvC (peer c) s) ∨ (k ≤ u ∧ u < 32 ∧ g = crdC (peer c)) := by
  unfold Ow at h
  rw [Pi.add_apply, Finsupp.add_apply] at h
  rcases Nat.add_pos_iff_pos_or_pos.mp h with h | h
  · obtain ⟨j, hj, hp⟩ := sum_tally_pos h
    obtain ⟨rfl, rfl⟩ := tally_pos hp
    exact .inl ⟨(Finset.mem_Ico.mp hj).1, (Finset.mem_Ico.mp hj).2, _, rfl⟩
  · obtain ⟨j, hj, hp⟩ := sum_tally_pos h
    obtain ⟨rfl, rfl⟩ := tally_pos hp
    exact .inr ⟨(Finset.mem_Ico.mp hj).1, (Finset.mem_Ico.mp hj).2, rfl⟩

omit [FloatOps F] in
/-- A device may wait on its cell `sm` at index `u` when every unit it still owes comes later in the order. -/
theorem mayWait_of (c : Dev nD) (sm : SemLoc sig) (u b n k : ℕ) (hu : u < 32) (hb : lv ((c : Thread nD τ), sm) u ≤ b)
    (hn : b < 2 * n + 2) (hk : b < 2 * k + 1) : (levAts L lv : sProp 𝕄) ⊢ MayWait (c : Thread nD τ) sm u (Ow c n k) :=
  MayOwe.of_cut (L := L) (lev := lv) b
    (fun p hp => by rw [Finset.mem_singleton.mp hp, L_tc]; exact Finset.mem_range.mpr hu)
    (fun g v hg => by
      rcases Ow_pos hg with ⟨-, hv, s, rfl⟩ | ⟨-, hv, rfl⟩ <;> rw [L_tc] <;> exact Finset.mem_range.mpr hv)
    (fun p hp => by rw [Finset.mem_singleton.mp hp]; exact hb)
    (fun g v hg => by
      rcases Ow_pos hg with ⟨hv, -, s, rfl⟩ | ⟨hv, -, rfl⟩
      · rw [lv_rcv]; omega
      · rw [lv_crd]; omega)

omit [FloatOps F] in
/-- A wait of the pipeline's own may always be made. -/
theorem mayWait_stage (c : Dev nD) (q : DmaSem sig) (hq : kd (.dma q) = .none) (O : CellTallies nD τ sig ℕ)
    (hO : O = O₀ c ∨ ∃ n k, O = Ow c n k) : (levAts L lv : sProp 𝕄) ⊢ MayWait (c : Thread nD τ) (.dma q) 0 O := by
  have h0 : lv ((c : Thread nD τ), .dma q) 0 = 0 := by unfold lv; rw [show kd (((c : Thread nD τ), SemLoc.dma q) : GSem nD τ sig).2 = .none from hq]
  rcases hO with rfl | ⟨n, k, rfl⟩
  · have hpos : ∀ g v, 0 < O₀ c g v → g.1.2 = .tc ∧ v < 32 ∧ 0 < lv g v := by
      intro g v hg
      unfold O₀ at hg
      rw [Pi.add_apply, Finsupp.add_apply] at hg
      rcases Nat.add_pos_iff_pos_or_pos.mp hg with hg | hg
      · rcases Ow_pos hg with ⟨-, hv, s, rfl⟩ | ⟨-, hv, rfl⟩
        · exact ⟨rfl, hv, by rw [lv_rcv]; omega⟩
        · exact ⟨rfl, hv, by rw [lv_crd]; omega⟩
      · obtain ⟨rfl, rfl⟩ := tally_pos hg
        exact ⟨rfl, by decide, by rw [lv_bar]; omega⟩
    exact MayOwe.of_cut (L := L) (lev := lv) 0
      (fun p hp => by rw [Finset.mem_singleton.mp hp, L_tc]; exact Finset.mem_range.mpr (by show 0 < 32; omega))
      (fun g v hg => by
        obtain ⟨h1, h2, -⟩ := hpos g v hg
        unfold L; rw [if_pos h1]; exact Finset.mem_range.mpr h2)
      (fun p hp => by rw [Finset.mem_singleton.mp hp]; exact h0.le)
      (fun g v hg => (hpos g v hg).2.2)
  · exact mayWait_of c (.dma q) 0 0 n k (by decide) h0.le (by omega) (by omega)

end Cert.SwapIdeal

end
-- ==== Proof.Ideal.Steps.lean ====
/-
One rule per kind of step of the kernel: the barrier, the slot credits, the copies and the waits for them, the
loads and the stores, each over a chunk or slot that is a variable.
-/
module

public import proofs.«01_k».proof.Proof.Ideal.Schedule

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The kernel's programs, with results in `α`. -/
abbrev Pg (F : FTy → Type) [FloatOps F] (α : Type) : Type 1 := Prog (TpuEff nD τ sig (Elt F) Λ₀ .tc) α

/-- The weakest precondition of a program on device `c`. -/
abbrev wpc (c : Dev nD) {α : Type} (p : Pg F α) (Q : α → sProp 𝕄) : sProp 𝕄 :=
  wp frame (wpE (defs₀ (F := F)) 𝒱₀ (c : Thread nD τ) none) Set.univ p Q

/-- What device `c` owes, whatever waits it has recorded. -/
def owe (c : Dev nD) (O : CellTallies nD τ sig ℕ) : sProp 𝕄 := iprop(∃ W, owes (c : Thread nD τ) O W)

/-- A slot named by its offsets is the slot. -/
theorem st_of {s : Fin 3} {o : Fin 3 → ℕ} (e : o = offV s) (io : ∀ a, o a + S1x1024x1024.size a ≤ S3x1024x1024.size a)
    (u : ∀ a, (Rect.unit (s := S3x1024x1024) o S1x1024x1024.size io).stride a = 1) :
    ((Memref.whole cc0_scratch0).slice (Rect.unit (s := S3x1024x1024) o S1x1024x1024.size io) u).squeeze S1024x1024 squeezes_S1x1024x1024_S1024x1024 = stM s := by
  subst e; rfl
theorem rv_of {s : Fin 3} {o : Fin 3 → ℕ} (e : o = offV s) (io : ∀ a, o a + S1x1024x1024.size a ≤ S3x1024x1024.size a)
    (u : ∀ a, (Rect.unit (s := S3x1024x1024) o S1x1024x1024.size io).stride a = 1) :
    ((Memref.whole cc0_scratch1).slice (Rect.unit (s := S3x1024x1024) o S1x1024x1024.size io) u).squeeze S1024x1024 squeezes_S1x1024x1024_S1024x1024 = rvM s := by
  subst e; rfl
theorem snd_of {s : Fin 3} {o : Fin 1 → ℕ} (e : o = offS s) (io : ∀ a, o a + S1.size a ≤ S3.size a) :
    ((cc0_scratch2.slice (Rect.unit (s := S3) o S1.size io)).squeeze S_ squeezes_S1_S_).sem = sndS s := by subst e; rfl
theorem rcv_of {s : Fin 3} {o : Fin 1 → ℕ} (e : o = offS s) (io : ∀ a, o a + S1.size a ≤ S3.size a) :
    ((cc0_scratch3.slice (Rect.unit (s := S3) o S1.size io)).squeeze S_ squeezes_S1_S_).sem = rcvS s := by subst e; rfl

theorem setOn_st (s : Fin 3) : (Memref.whole cc0_scratch0).view.setOn (row s).set = cellsOf s := by
  show Finset.map (View.whole cc0_scratch0).emb (row s).toLoadRect.set = (row s).toLoadRect.set
  rw [← View.set_slice, View.set_slice_whole]
theorem setOn_rv (s : Fin 3) : (Memref.whole cc0_scratch1).view.setOn (row s).set = cellsOf s := by
  show Finset.map (View.whole cc0_scratch1).emb (row s).toLoadRect.set = (row s).toLoadRect.set
  rw [← View.set_slice, View.set_slice_whole]
theorem amount_rv (s : Fin 3) (q : DmaSem sig) : (rvM s).view.amount (.dma q) = N := rfl

theorem store_set (s : Fin 3) : ((Memref.whole cc0_scratch0).access (row s)).setOn Finset.univ = cellsOf s := by
  rw [View.setOn_univ]
  exact View.set_slice_whole _ _

/-- Loads and stores of a whole buffer through the rectangle that is all of it. -/
theorem readAt_win {κ : Kind} {sp : Space} {sh : Shape} {e : EltTy} {M : Memref sig κ sp sh e} (hM : M.IsWhole) (off : Fin sh.rank → ℕ)
    (ho : off = fun _ => 0) (io : ∀ a, off a + sh.size a ≤ sh.size a) (f : M.view.ty.Contents (Elt F)) :
    M.view.readAt (Elt F) (Rect.unit off sh.size io).toLoadRect f = M.view.read (Elt F) f := by
  obtain ⟨b, rfl, rfl, rfl, h⟩ := hM; cases h
  exact Memref.readAt_unit_zero (Elt F) b ho io f
theorem write_win {κ : Kind} {sp : Space} {sh : Shape} {e : EltTy} {M : Memref sig κ sp sh e} (hM : M.IsWhole) (off : Fin sh.rank → ℕ)
    (ho : off = fun _ => 0) (io : ∀ a, off a + sh.size a ≤ sh.size a) (f : M.view.ty.Contents (Elt F)) (w : sh.Idx → Elt F e) :
    M.view.read (Elt F) ((M.access (Rect.unit off sh.size io)).write (Elt F) f w Finset.univ) = w := by
  obtain ⟨b, rfl, rfl, rfl, h⟩ := hM; cases h
  exact Memref.write_access_unit_zero_univ (Elt F) b ho io f w
theorem store_win_set {κ : Kind} {sp : Space} {sh : Shape} {e : EltTy} (M : Memref sig κ sp sh e) (r : Rect sh) :
    (M.access r).setOn Finset.univ ⊆ M.view.set := by
  rw [View.setOn_univ]
  show (M.view.slice r).set ⊆ _
  rw [View.set_slice]
  exact M.view.setOn_subset_set _

section Steps
variable {α : Type} (c : Dev nD)

/-! ## The barrier -/

/-- The barrier signal hands the partner the three freed landing slots. -/
theorem step_bar_signal (Q : α → sProp 𝕄) {κ : ℕ} {p : Dev nD} (hp : p = peer c) (K : PUnit → Pg F α) (n k : ℕ) :
    iprop(cellInv ER (Rd m) κ (barC (peer c)) ∗ owe c (Ow c n k + tallyAt (barC (peer c)) 0 1) ∗ dutyTok ER (barC (peer c)) 0 0
        ∗ AvailTo c 3 ∗ reached ER (barC (peer c)) 0)
      ⊢ iprop((owe c (Ow c n k) -∗ wpc c (K ⟨⟩) Q) -∗ wpc c (.op (.semSignal (p : Thread nD τ) barS 1) K) Q) := by
  subst hp
  unfold owe
  iintro ⟨#HI, ⟨%W, HO⟩, Ht, #HA, #Hr⟩ HK
  iapply (Rounds.wp_signal 𝒱₀ ER (Rd m) (c : Thread nD τ) none (dst := (peer c : Thread nD τ)) (κ := κ) (r := 0)
      (d := 0) (by rw [duties_bar]; exact Finset.mem_singleton_self _) (amount_bar m (peer c) 0 0) 0 (Ow c n k) rfl) $$ [HO Ht]
  · isplitr; · iexact HI
    isplitl [HO]; · iexact HO
    isplitl [Ht]; · iexact Ht
    isplitr; · rw [payload_bar, peer_peer]; iexact HA
    iexact Hr
  iintro HO
  iapply HK
  iexists W; iexact HO

/-- The barrier wait brings the partner's. -/
theorem step_bar_wait (Q : α → sProp 𝕄) {κ : ℕ} (K : PUnit → Pg F α) :
    iprop(cellInv ER (Rd m) κ (barC c) ∗ levAts L lv ∗ cred (tallyAt (barC c) 0 1) ∗ owe c (Ow c 0 3) ∗ atPos ER (barC c) 0 ∅ 0)
      ⊢ iprop((owe c (Ow c 0 3) ∗ atPos ER (barC c) 1 ∅ 0 ∗ AvailTo (peer c) 3 -∗ wpc c (K ⟨⟩) Q)
        -∗ wpc c (.op (.semWait barS 1) K) Q) := by
  unfold owe
  iintro ⟨#HI, #Hlev, Hc, ⟨%W, HO⟩, Hat⟩ HK
  iapply (Rounds.wp_wait_rest_token 𝒱₀ ER (Rd m) (c : Thread nD τ) none (κ := κ)
      (wpE_semWait_eq 𝒱₀ (c : Thread nD τ) none Set.univ) (Set.mem_univ _) 0 (O := Ow c 0 3) (W := W) (R := 0) (m := 0) (T := ∅)
      (by rw [expect_bar])) $$ [Hc HO Hat]
  · isplitr; · iexact HI
    isplitl [Hc]; · iexact Hc
    isplitl [HO]; · iexact HO
    isplitr
    · iapply (mayWait_of c (.reg barS) 0 1 0 3 (by decide) (lv_bar c 0).le (by decide) (by decide)); iexact Hlev
    iexact Hat
  iintro ⟨HO, Hat, -, Hpay⟩
  ihave Hp := (Entails.of_eq (rest_bar m c)) $$ Hpay
  iapply HK
  isplitl [HO]; · iexists _; iexact HO
  isplitl [Hat]; · iexact Hat
  iexact Hp

/-! ## The slot credits -/

/-- The credit of chunk `i` says that every chunk up to it may be written. -/
theorem step_crd_signal (Q : α → sProp 𝕄) {κ : ℕ} {p : Dev nD} (hp : p = peer c) (K : PUnit → Pg F α) (n i : ℕ) (hi : 3 ≤ i) (hi' : i < 32) :
    iprop(cellInv ER (Rd m) κ (crdC (peer c)) ∗ owe c (Ow c n i) ∗ dutyTok ER (crdC (peer c)) 0 i
        ∗ AvailTo c (i + 1) ∗ reached ER (crdC (peer c)) 0)
      ⊢ iprop((owe c (Ow c n (i + 1)) -∗ wpc c (K ⟨⟩) Q) -∗ wpc c (.op (.semSignal (p : Thread nD τ) crdS 1) K) Q) := by
  subst hp
  unfold owe
  iintro ⟨#HI, ⟨%W, HO⟩, Ht, #HA, #Hr⟩ HK
  iapply (Rounds.wp_signal 𝒱₀ ER (Rd m) (c : Thread nD τ) none (dst := (peer c : Thread nD τ)) (κ := κ) (r := 0)
      (d := i) (by rw [duties_crd]; exact Finset.mem_Ico.mpr ⟨hi, hi'⟩) (amount_crd m (peer c) 0 i) i (Ow c n (i + 1)) (Ow_pop_crd c n i hi')) $$ [HO Ht]
  · isplitr; · iexact HI
    isplitl [HO]; · iexact HO
    isplitl [Ht]; · iexact Ht
    isplitr; · rw [payload_crd, peer_peer]; iexact HA
    iexact Hr
  iintro HO
  iapply HK
  iexists W; iexact HO

omit [FloatOps F] in
theorem avail_of_lt (p : Dev nD) {j n : ℕ} (h : j < n) : (AvailTo p n : sProp 𝕄) ⊢ Avail p j := by
  unfold AvailTo
  exact bigSep_elim (Finset.mem_range.mpr h)

/-- The position at the credit cell once the credits below `k` were waited for: the partner's credits in hand,
    at least as many, of which each says that the chunks up to its own may be written. -/
def crdPos (c : Dev nD) (k : ℕ) : sProp 𝕄 :=
  iprop(∃ T : Finset ℕ, ⌜T ⊆ Finset.Ico 3 32 ∧ k - 3 ≤ T.card⌝ ∗ atPos ER (crdC c) 0 T (k - 3) ∗ bigSep T (fun i => AvailTo (F := F) (peer c) (i + 1)))

/-- Waiting for one more credit shows that chunk `i` may be written, whichever credits have come. -/
theorem step_crd_wait (Q : α → sProp 𝕄) {κ : ℕ} (K : PUnit → Pg F α) (n i : ℕ) (hi : 3 ≤ i) (hi' : i < 32) (hn : i ≤ n) :
    iprop(cellInv ER (Rd m) κ (crdC c) ∗ levAts L lv ∗ cred (tallyAt (crdC c) i 1) ∗ owe c (Ow c n (i + 1)) ∗ crdPos c i)
      ⊢ iprop((owe c (Ow c n (i + 1)) ∗ crdPos c (i + 1) ∗ Avail (peer c) i -∗ wpc c (K ⟨⟩) Q)
        -∗ wpc c (.op (.semWait crdS 1) K) Q) := by
  unfold owe crdPos
  iintro ⟨#HI, #Hlev, Hc, ⟨%W, HO⟩, ⟨%T, %hT, Hat, #HT⟩⟩ HK
  iapply (Rounds.wp_wait 𝒱₀ ER (Rd m) (c : Thread nD τ) none (κ := κ)
      (wpE_semWait_eq 𝒱₀ (c : Thread nD τ) none Set.univ) (Set.mem_univ _) (cr := Finsupp.single i 1) (O := Ow c n (i + 1)) (W := W)
      {(SemLoc.reg crdS, i)} (R := 0) (m := i - 3) (T := T) (by rw [Util.total_single]) (image_single_subset (SemLoc.reg crdS) i 1)) $$ [Hc HO Hat]
  · isplitr; · iexact HI
    isplitl [Hc]; · iexact Hc
    isplitl [HO]; · iexact HO
    isplitr
    · iapply (mayWait_of c (.reg crdS) i (2 * i + 1) n (i + 1) hi' (lv_crd c i).le (by omega) (by omega)); iexact Hlev
    iexact Hat
  iintro %S ⟨%hS, HO, Hat, Hpay⟩
  rw [duties_crd, expect_crd] at hS
  have hcard : i + 1 - 3 ≤ S.card := by
    have h1 : i - 3 + 1 + (Finset.Ico 3 32 \ S).card ≤ 29 := hS.2.2
    have h2 := Finset.card_le_card hS.2.1
    rw [Finset.card_sdiff_of_subset hS.2.1] at h1
    rw [Nat.card_Ico] at h1 h2
    omega
  have hex : ∃ d ∈ S, i ≤ d := by
    by_contra hno
    have hsub : S ⊆ Finset.Ico 3 i := fun d hd =>
      Finset.mem_Ico.mpr ⟨(Finset.mem_Ico.mp (hS.2.1 hd)).1, Nat.lt_of_not_le fun h => hno ⟨d, hd, h⟩⟩
    have h3 := Finset.card_le_card hsub
    rw [Nat.card_Ico] at h3
    omega
  obtain ⟨d, hd, hid⟩ := hex
  have hpay : bigSep (S \ T) (fun d => (Rd m).payload (crdC c) 0 d) = bigSep (S \ T) (fun i => AvailTo (F := F) (peer c) (i + 1)) :=
    bigSep_congr fun d _ => payload_crd m c 0 d
  ihave #Hp := (Entails.of_eq hpay) $$ Hpay
  have hun : iprop(bigSep T (fun i => AvailTo (F := F) (peer c) (i + 1)) ∗ bigSep (S \ T) (fun i => AvailTo (F := F) (peer c) (i + 1)))
      ⊢ bigSep S (fun i => AvailTo (F := F) (peer c) (i + 1)) := by
    exact Entails.of_eq (bigSep_sdiff_split hS.1).symm
  have hav : bigSep S (fun i => AvailTo (F := F) (peer c) (i + 1)) ⊢ Avail (F := F) (peer c) i :=
    (bigSep_elim hd).trans (avail_of_lt (peer c) (Nat.lt_succ_of_le hid))
  ihave #HS := hun $$ []
  · isplitr
    · iexact HT
    · iexact Hp
  iapply HK
  isplitl [HO]; · iexists _; iexact HO
  isplitl [Hat]
  · iexists S
    isplitr; · ipureintro; exact ⟨hS.2.1, hcard⟩
    isplitl [Hat]
    · rw [show i + 1 - 3 = i - 3 + 1 by omega]; iexact Hat
    iexact HS
  iapply hav
  iexact HS

/-! ## The copies -/

theorem copy_pay_snd (n : ℕ) : ((stM (sl n)).view.loc (c : Thread nD τ) ↦[(stM (sl n)).view.set]{fullShare.right} spread (wb m c n) : sProp 𝕄)
    ⊢ (Rd m).payload (sndC c (sl n)) (n / 3) 0 := by
  rw [payload_snd, stM_set]; unfold stPts; exact BI.Entails.refl _
theorem copy_pay_rcv (n : ℕ) (fd : Buf (Elt F) ((rvM (sl n)).view.loc (peer c : Thread nD τ))) :
    ((rvM (sl n)).view.loc (peer c : Thread nD τ) ↦[(rvM (sl n)).view.set]{fullShare}
        (rvM (sl n)).view.write (Elt F) fd ((stM (sl n)).view.read (Elt F) (spread (wb m c n))) Finset.univ : sProp 𝕄)
      ⊢ (Rd m).payload (rcvC (peer c) (sl n)) (n / 3) 0 := by
  rw [payload_rcv, rvM_set, peer_peer]; unfold rvPts
  exact Entails.of_eq (pointsTo_congr (landed (sl n) (spread (wb m c n)) fd))

/-- A copy to the partner, over any staging and landing memrefs. -/
theorem copy_raw (Q : α → sProp 𝕄) {κ₁ κ₂ : ℕ} (n k : ℕ) (hn : n < 32)
    (src dst : Memref sig .tc .vmem S1024x1024 .bf16) (q : PosShare TreeShare)
    (fs : Buf (Elt F) (src.view.loc (c : Thread nD τ))) (fd : Buf (Elt F) (dst.view.loc (peer c : Thread nD τ)))
    (hN : dst.view.amount (.dma (rcvS (sl n))) = N)
    (h₁ : (src.view.loc (c : Thread nD τ) ↦[src.view.set]{q} fs : sProp 𝕄) ⊢ (Rd m).payload (sndC c (sl n)) (n / 3) 0)
    (h₂ : (dst.view.loc (peer c : Thread nD τ) ↦[dst.view.set]{fullShare} dst.view.write (Elt F) fd (src.view.read (Elt F) fs) Finset.univ : sProp 𝕄)
      ⊢ (Rd m).payload (rcvC (peer c) (sl n)) (n / 3) 0)
    {hsc : dst.view.ref.isScScratch = false} {hsrc : src.view.WordExact} {hdst : dst.view.WordExact}
    {hsem : DmaTarget.Typed .vmem (.dma (rcvS (sl n))) (.remote (Dev.tc (peer c) : Thread nD τ) dst (.dma (sndS (sl n))) hsc)}
    (K : PUnit → Pg F α) (W : Waits sig ℕ) :
    iprop(cellInv ER (Rd m) κ₁ (sndC c (sl n)) ∗ cellInv ER (Rd m) κ₂ (rcvC (peer c) (sl n))
        ∗ (src.view.loc (c : Thread nD τ) ↦[src.view.set]{q} fs) ∗ (dst.view.loc (peer c : Thread nD τ) ↦[dst.view.set]{fullShare} fd)
        ∗ owes (c : Thread nD τ) (Ow c n k) W
        ∗ dutyTok ER (sndC c (sl n)) (n / 3) 0 ∗ reached ER (sndC c (sl n)) (n / 3)
        ∗ dutyTok ER (rcvC (peer c) (sl n)) (n / 3) 0 ∗ reached ER (rcvC (peer c) (sl n)) (n / 3))
      ⊢ iprop((cred (tallyAt (sndC c (sl n)) 0 N) ∗ owes (c : Thread nD τ) (Ow c (n + 1) k) W -∗ wpc c (K ⟨⟩) Q)
        -∗ wpc c (.op (.enqueueDma src (.remote (Dev.tc (peer c) : Thread nD τ) dst (.dma (sndS (sl n))) hsc) (.dma (rcvS (sl n))) hsrc hdst hsem) K) Q) :=
  Rounds.wp_send_pointsTo 𝒱₀ ER (Rd m) (c : Thread nD τ) none (κ₁ := κ₁) (κ₂ := κ₂)
    (r₁ := n / 3) (r₂ := n / 3) (d₁ := 0) (d₂ := 0)
    (by rw [duties_snd m c n hn]; exact Finset.mem_singleton_self _) (by rw [duties_rcv m (peer c) n hn]; exact Finset.mem_singleton_self _)
    n 0 N hN (amount_snd m c (sl n) _ 0) (amount_rcv m (peer c) (sl n) _ 0) (Ow c (n + 1) k) (Ow_pop_rcv c n k hn) h₁ h₂

/-- The copy of chunk `j` from its staging slot into the partner's landing slot. -/
theorem step_copy (Q : α → sProp 𝕄) {κ₁ κ₂ : ℕ} {p : Dev nD} (hp : p = peer c) (n k : ℕ) (hn : n < 32)
    {src : Memref sig .tc .vmem S1024x1024 .bf16} (hs : src = stM (sl n)) {dst : Memref sig .tc .vmem S1024x1024 .bf16} (hd : dst = rvM (sl n))
    {qs : DmaSem sig} (hqs : qs = sndS (sl n)) {qr : DmaSem sig} (hqr : qr = rcvS (sl n))
    {hsc : dst.view.ref.isScScratch = false} {hsrc : src.view.WordExact} {hdst : dst.view.WordExact}
    {hsem : DmaTarget.Typed .vmem (.dma qr) (.remote (Dev.tc p : Thread nD τ) dst (.dma qs) hsc)}
    (K : PUnit → Pg F α) :
    iprop(cellInv ER (Rd m) κ₁ (sndC c (sl n)) ∗ cellInv ER (Rd m) κ₂ (rcvC (peer c) (sl n))
        ∗ stPts c (sl n) fullShare.right (spread (wb m c n)) ∗ rvAny (peer c) (sl n) ∗ owe c (Ow c n k)
        ∗ dutyTok ER (sndC c (sl n)) (n / 3) 0 ∗ reached ER (sndC c (sl n)) (n / 3)
        ∗ dutyTok ER (rcvC (peer c) (sl n)) (n / 3) 0 ∗ reached ER (rcvC (peer c) (sl n)) (n / 3))
      ⊢ iprop((cred (tallyAt (sndC c (sl n)) 0 N) ∗ owe c (Ow c (n + 1) k) -∗ wpc c (K ⟨⟩) Q)
        -∗ wpc c (.op (.enqueueDma src (.remote (Dev.tc p : Thread nD τ) dst (.dma qs) hsc) (.dma qr) hsrc hdst hsem) K) Q) := by
  subst hp; subst hs; subst hd; subst hqs; subst hqr
  unfold owe stPts rvAny Release.slot
  iintro ⟨#HI₁, #HI₂, Hs, ⟨%fd, Hd⟩, ⟨%W, HO⟩, Ht₁, #Hr₁, Ht₂, #Hr₂⟩ HK
  iapply (copy_raw m c Q n k hn (stM (sl n)) (rvM (sl n)) fullShare.right (spread (wb m c n)) fd (amount_rv _ _)
    (copy_pay_snd m c n) (copy_pay_rcv m c n fd) K W) $$ [Hs Hd HO Ht₁ Ht₂]
  · isplitr; · iexact HI₁
    isplitr; · iexact HI₂
    isplitl [Hs]; · rw [stM_set]; iexact Hs
    isplitl [Hd]; · rw [rvM_set]; iexact Hd
    isplitl [HO]; · iexact HO
    isplitl [Ht₁]; · iexact Ht₁
    isplitr; · iexact Hr₁
    isplitl [Ht₂]; · iexact Ht₂
    iexact Hr₂
  iintro ⟨Hc, HO⟩
  iapply HK
  isplitl [Hc]; · iexact Hc
  iexists W; iexact HO

/-- Waiting until the copy of chunk `j` has left brings the half of its staging slot back. -/
theorem step_snd_wait (Q : α → sProp 𝕄) {κ : ℕ} (j : ℕ) (hj : j < 32) (n k : ℕ)
    {src dst : Memref sig .tc .vmem S1024x1024 .bf16} (hd : dst.view.dmaCredit = N) {q : DmaSem sig} (hq : q = sndS (sl j))
    {hsrc : src.view.WordExact} {hdst : dst.view.WordExact}
    (K : PUnit → Pg F α) :
    iprop(cellInv ER (Rd m) κ (sndC c (sl j)) ∗ levAts L lv ∗ cred (tallyAt (sndC c (sl j)) 0 N) ∗ owe c (Ow c n k) ∗ atPos ER (sndC c (sl j)) (j / 3) ∅ 0)
      ⊢ iprop((owe c (Ow c n k) ∗ (atPos ER (sndC c (sl j)) (j / 3 + 1) ∅ 0 ∗ reached ER (sndC c (sl j)) (j / 3 + 1))
            ∗ stPts c (sl j) fullShare.right (spread (wb m c j)) -∗ wpc c (K ⟨⟩) Q)
        -∗ wpc c (.op (.waitDma2 q src dst hsrc hdst) K) Q) := by
  subst hq
  unfold owe
  iintro ⟨#HI, #Hlev, Hc, ⟨%W, HO⟩, Hat⟩ HK
  iapply (Rounds.wp_wait_rest_token 𝒱₀ ER (Rd m) (c : Thread nD τ) none (κ := κ)
      (wpE_waitDma2_eq 𝒱₀ (c : Thread nD τ) none Set.univ) (Set.mem_univ _) 0 (O := Ow c n k) (W := W) (R := j / 3) (m := 0) (T := ∅)
      (by rw [hd, Nat.zero_add, expect_snd m c j hj])) $$ [Hc HO Hat]
  · isplitr; · iexact HI
    isplitl [Hc]; · iexact Hc
    isplitl [HO]; · iexact HO
    isplitr
    · iapply (mayWait_of c (.dma (sndS (sl j))) 0 0 n k (by decide) (lv_snd c (sl j) 0).le (by omega) (by omega)); iexact Hlev
    iexact Hat
  iintro ⟨HO, Hat, Hr, Hpay⟩
  ihave Hp := (Entails.of_eq (rest_snd m c j hj)) $$ Hpay
  iapply HK
  isplitl [HO]; · iexists _; iexact HO
  isplitl [Hat Hr]; · isplitl [Hat] <;> iassumption
  iexact Hp

/-- Waiting until the partner's chunk `j` has come brings its landing slot with it. -/
theorem step_rcv_wait (Q : α → sProp 𝕄) {κ : ℕ} (j : ℕ) (hj : j < 32) (n k : ℕ) (hn : j < n) (hk : j < k)
    {src dst : Memref sig .tc .vmem S1024x1024 .bf16} (hd : dst.view.dmaCredit = N) {q : DmaSem sig} (hq : q = rcvS (sl j))
    {hsrc : src.view.WordExact} {hdst : dst.view.WordExact}
    (K : PUnit → Pg F α) :
    iprop(cellInv ER (Rd m) κ (rcvC c (sl j)) ∗ levAts L lv ∗ cred (tallyAt (rcvC c (sl j)) j N) ∗ owe c (Ow c n k) ∗ atPos ER (rcvC c (sl j)) (j / 3) ∅ 0)
      ⊢ iprop((owe c (Ow c n k) ∗ (atPos ER (rcvC c (sl j)) (j / 3 + 1) ∅ 0 ∗ reached ER (rcvC c (sl j)) (j / 3 + 1))
            ∗ rvPts c (sl j) (spread (wb m (peer c) j)) -∗ wpc c (K ⟨⟩) Q)
        -∗ wpc c (.op (.waitDma2 q src dst hsrc hdst) K) Q) := by
  subst hq
  unfold owe
  iintro ⟨#HI, #Hlev, Hc, ⟨%W, HO⟩, Hat⟩ HK
  iapply (Rounds.wp_wait_rest_token 𝒱₀ ER (Rd m) (c : Thread nD τ) none (κ := κ)
      (wpE_waitDma2_eq 𝒱₀ (c : Thread nD τ) none Set.univ) (Set.mem_univ _) j (O := Ow c n k) (W := W) (R := j / 3) (m := 0) (T := ∅)
      (by rw [hd, Nat.zero_add, expect_rcv m c j hj])) $$ [Hc HO Hat]
  · isplitr; · iexact HI
    isplitl [Hc]; · iexact Hc
    isplitl [HO]; · iexact HO
    isplitr
    · iapply (mayWait_of c (.dma (rcvS (sl j))) j (2 * j + 2) n k hj (lv_rcv c (sl j) j).le (by omega) (by omega)); iexact Hlev
    iexact Hat
  iintro ⟨HO, Hat, Hr, Hpay⟩
  ihave Hp := (Entails.of_eq (rest_rcv m c j hj)) $$ Hpay
  iapply HK
  isplitl [HO]; · iexists _; iexact HO
  isplitl [Hat Hr]; · isplitl [Hat] <;> iassumption
  iexact Hp

/-! ## The loads and stores -/

/-- Loading slot `s` of the staging buffer. -/
theorem step_ld_st (Q : α → sProp 𝕄) (s : Fin 3) (q : PosShare TreeShare) (w : Vec F S1x1024x1024 .bf16)
    {o : Fin 3 → ℕ} (e : o = offV s) (io : ∀ a, o a + S1x1024x1024.size a ≤ S3x1024x1024.size a)
    {hl : (Memref.whole cc0_scratch0 : Memref sig .tc .vmem S3x1024x1024 .bf16).view.LoadsAt (Rect.unit (s := S3x1024x1024) o S1x1024x1024.size io).toLoadRect}
    (K : Vec F S1x1024x1024 .bf16 → Pg F α) :
    stPts c s q (spread w) ⊢ iprop((stPts c s q (spread w) -∗ wpc c (K w) Q)
      -∗ wpc c (.op (.load (Memref.whole cc0_scratch0 : Memref sig .tc .vmem S3x1024x1024 .bf16) (Rect.unit (s := S3x1024x1024) o S1x1024x1024.size io).toLoadRect hl) K) Q) := by
  subst e
  unfold stPts
  iintro Hs HK
  iapply (wp_load 𝒱₀ (c : Thread nD τ) none Set.univ (m := (Memref.whole cc0_scratch0 : Memref sig .tc .vmem S3x1024x1024 .bf16)) (S := cellsOf s) (q := q) (f := spread w)
    (setOn_st s).subset) $$ Hs
  rw [readAt_st w s]
  iexact HK

/-- Loading slot `s` of the landing buffer. -/
theorem step_ld_rv (Q : α → sProp 𝕄) (s : Fin 3) (w : Vec F S1x1024x1024 .bf16)
    {o : Fin 3 → ℕ} (e : o = offV s) (io : ∀ a, o a + S1x1024x1024.size a ≤ S3x1024x1024.size a)
    {hl : (Memref.whole cc0_scratch1 : Memref sig .tc .vmem S3x1024x1024 .bf16).view.LoadsAt (Rect.unit (s := S3x1024x1024) o S1x1024x1024.size io).toLoadRect}
    (K : Vec F S1x1024x1024 .bf16 → Pg F α) :
    rvPts c s (spread w) ⊢ iprop((rvPts c s (spread w) -∗ wpc c (K w) Q)
      -∗ wpc c (.op (.load (Memref.whole cc0_scratch1 : Memref sig .tc .vmem S3x1024x1024 .bf16) (Rect.unit (s := S3x1024x1024) o S1x1024x1024.size io).toLoadRect hl) K) Q) := by
  subst e
  unfold rvPts
  iintro Hs HK
  iapply (wp_load 𝒱₀ (c : Thread nD τ) none Set.univ (m := (Memref.whole cc0_scratch1 : Memref sig .tc .vmem S3x1024x1024 .bf16)) (S := cellsOf s) (q := fullShare) (f := spread w)
    (setOn_rv s).subset) $$ Hs
  rw [readAt_rv w s]
  iexact HK

/-- A load of a staging slot whose value is not used. -/
theorem step_ld_any (Q : α → sProp 𝕄) (s : Fin 3) (q : PosShare TreeShare) (f : Buf (Elt F) ((c : Thread nD τ).loc cc0_scratch0))
    {o : Fin 3 → ℕ} (e : o = offV s) (io : ∀ a, o a + S1x1024x1024.size a ≤ S3x1024x1024.size a)
    {hl : (Memref.whole cc0_scratch0 : Memref sig .tc .vmem S3x1024x1024 .bf16).view.LoadsAt (Rect.unit (s := S3x1024x1024) o S1x1024x1024.size io).toLoadRect}
    (K : Pg F α) :
    stPts c s q f ⊢ iprop((stPts c s q f -∗ wpc c K Q)
      -∗ wpc c (.op (.load (Memref.whole cc0_scratch0 : Memref sig .tc .vmem S3x1024x1024 .bf16) (Rect.unit (s := S3x1024x1024) o S1x1024x1024.size io).toLoadRect hl) fun _ => K) Q) := by
  subst e
  unfold stPts
  iintro Hs HK
  iapply (wp_load 𝒱₀ (c : Thread nD τ) none Set.univ (m := (Memref.whole cc0_scratch0 : Memref sig .tc .vmem S3x1024x1024 .bf16)) (S := cellsOf s) (q := q) (f := f)
    (setOn_st s).subset) $$ Hs
  iexact HK

/-- A store through part of a buffer, said by what the cells hold afterwards. -/
theorem st_raw (Q : α → sProp 𝕄) {sh : Shape} {e : EltTy} (M : Memref sig .tc .vmem sh e) (r : Rect sh) (w : r.shape.Idx → Elt F e)
    {hx : (M.access r).Stores Finset.univ} {hm : (Finset.univ : Finset r.shape.Idx) = Finset.univ ∨ ∀ a, r.stride a = 1}
    {S : Finset (Idx ((M.access r).loc (c : Thread nD τ)))} (hS : (M.access r).setOn Finset.univ ⊆ S)
    (f g : Buf (Elt F) ((M.access r).loc (c : Thread nD τ))) (hg : ∀ i ∈ S, (M.access r).write (Elt F) f w Finset.univ i = g i)
    (K : PUnit → Pg F α) :
    (((M.access r).loc (c : Thread nD τ) ↦[S]{fullShare} f) : sProp 𝕄)
      ⊢ iprop((((M.access r).loc (c : Thread nD τ) ↦[S]{fullShare} g) -∗ wpc c (K ⟨⟩) Q)
        -∗ wpc c (.op (.store M r w Finset.univ hx hm) K) Q) := by
  rw [← pointsTo_congr hg]
  exact wp_store 𝒱₀ (c : Thread nD τ) none Set.univ hS

/-- A store over a staging slot. -/
theorem step_st (Q : α → sProp 𝕄) (s : Fin 3) (f : Buf (Elt F) ((c : Thread nD τ).loc cc0_scratch0)) (w : Vec F S1x1024x1024 .bf16)
    {o : Fin 3 → ℕ} (e : o = offV s) (io : ∀ a, o a + S1x1024x1024.size a ≤ S3x1024x1024.size a)
    {hx : ((Memref.whole cc0_scratch0 : Memref sig .tc .vmem S3x1024x1024 .bf16).access (Rect.unit (s := S3x1024x1024) o S1x1024x1024.size io)).Stores Finset.univ}
    {hm : (Finset.univ : Finset (Rect.unit (s := S3x1024x1024) o S1x1024x1024.size io).shape.Idx) = Finset.univ ∨ ∀ a, (Rect.unit (s := S3x1024x1024) o S1x1024x1024.size io).stride a = 1}
    (K : PUnit → Pg F α) :
    stPts c s fullShare f ⊢ iprop((stPts c s fullShare (spread w) -∗ wpc c (K ⟨⟩) Q)
      -∗ wpc c (.op (.store (Memref.whole cc0_scratch0 : Memref sig .tc .vmem S3x1024x1024 .bf16) (Rect.unit (s := S3x1024x1024) o S1x1024x1024.size io) w Finset.univ hx hm) K) Q) := by
  subst e
  unfold stPts
  exact st_raw c Q (Memref.whole cc0_scratch0 : Memref sig .tc .vmem S3x1024x1024 .bf16) (row s) w (S := cellsOf s) (store_set s).subset f (spread w) (write_st w s f) K

theorem zero2 : (![0, 0] : Fin 2 → ℕ) = fun _ => 0 := funext fun a => by fin_cases a <;> rfl

/-- A load of a whole window. -/
theorem step_ld_win (Q : α → sProp 𝕄) {M : Memref sig .tc .vmem S1024x1024 .f32} (hM : M.IsWhole) (X : Vec F S1024x1024 .f32)
    {io : ∀ a, (![0, 0] : Fin 2 → ℕ) a + S1024x1024.size a ≤ S1024x1024.size a}
    {hl : M.view.LoadsAt (Rect.unit (s := S1024x1024) ![0, 0] S1024x1024.size io).toLoadRect} (K : Vec F S1024x1024 .f32 → Pg F α) :
    (owns (c : Thread nD τ) M fullShare X : sProp 𝕄) ⊢ iprop((owns (c : Thread nD τ) M fullShare X -∗ wpc c (K X) Q)
      -∗ wpc c (.op (.load M (Rect.unit (s := S1024x1024) ![0, 0] S1024x1024.size io).toLoadRect hl) K) Q) := by
  unfold owns
  iintro ⟨%f, %hf, Hx⟩ HK
  iapply (wp_load 𝒱₀ (c : Thread nD τ) none Set.univ (m := M) (S := M.view.set) (q := fullShare) (f := f) (M.view.setOn_subset_set _)) $$ Hx
  rw [readAt_win hM _ zero2 io f, hf]
  iintro Hx
  iapply HK
  iexists f
  isplitr; · ipureintro; exact hf
  iexact Hx

/-- A store over a whole window. -/
theorem step_st_win (Q : α → sProp 𝕄) {M : Memref sig .tc .vmem S1024x1024 .f32} (hM : M.IsWhole) (X w : Vec F S1024x1024 .f32)
    {io : ∀ a, (![0, 0] : Fin 2 → ℕ) a + S1024x1024.size a ≤ S1024x1024.size a}
    {hx : (M.access (Rect.unit (s := S1024x1024) ![0, 0] S1024x1024.size io)).Stores Finset.univ}
    {hm : (Finset.univ : Finset (Rect.unit (s := S1024x1024) ![0, 0] S1024x1024.size io).shape.Idx) = Finset.univ ∨ ∀ a, (Rect.unit (s := S1024x1024) ![0, 0] S1024x1024.size io).stride a = 1}
    (K : PUnit → Pg F α) :
    (owns (c : Thread nD τ) M fullShare X : sProp 𝕄) ⊢ iprop((owns (c : Thread nD τ) M fullShare w -∗ wpc c (K ⟨⟩) Q)
      -∗ wpc c (.op (.store M (Rect.unit (s := S1024x1024) ![0, 0] S1024x1024.size io) w Finset.univ hx hm) K) Q) := by
  unfold owns
  iintro ⟨%f, %hf, Hx⟩ HK
  iapply (wp_store 𝒱₀ (c : Thread nD τ) none Set.univ (m := M) (r := Rect.unit (s := S1024x1024) ![0, 0] S1024x1024.size io) (w := w) (Mk := Finset.univ) (S := M.view.set) (f := f) (store_win_set M _)) $$ Hx
  iintro Hx
  iapply HK
  iexists _
  isplitr
  rotate_left
  · iexact Hx
  ipureintro
  exact write_win hM _ zero2 io f w

end Steps

end Cert.SwapIdeal

end
-- ==== Proof.Ideal.Segs.lean ====
/-
The kernel's body as a row of parts, one per printed condition.
-/
module

public import proofs.«01_k».proof.Proof.Ideal.Steps

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev A3 : Memref sig .tc .vmem S3x1024x1024 .bf16 := Memref.whole cc0_scratch0
abbrev A4 : Memref sig .tc .vmem S3x1024x1024 .bf16 := Memref.whole cc0_scratch1
theorem A3_whole : A3.IsWhole := Memref.isWhole_whole _
theorem A4_whole : A4.IsWhole := Memref.isWhole_whole _

/-! ## The body's parts, each before a rest `K` -/

section Parts
variable {α : Type} (i : grid0.Coords) (d0 : Dev nD)

/-- The barrier before the first point. -/
def seg1 (K : Pg F α) : Pg F α :=
  if h : k0_cond1 i = 1#1 then
    .op (.semSignal ((⟨k0_dev1 d0, k0_dev1_lt i d0 h⟩ : Dev nD) : Thread nD τ) barS (1#32 : BitVec 32).toInt) fun _ =>
      .op (.semWait barS (1#32 : BitVec 32).toInt) fun _ => K
  else K

/-- The wait for the copy that last read the staging slot. -/
def seg2 (K : Pg F α) : Pg F α :=
  if h : k0_cond2 i = 1#1 then
    .op (.waitDma2 ((cc0_scratch2.slice (Rect.unit (s := S3) (k0_off1 i) S1.size (k0_off1_inb i h))).squeeze S_ squeezes_S1_S_).sem
      ((A4.slice (Rect.unit (s := S3x1024x1024) (k0_off2 i) S1x1024x1024.size (k0_off2_inb i h)) (fun _ => rfl)).squeeze S1024x1024 squeezes_S1x1024x1024_S1024x1024)
      ((A3.slice (Rect.unit (s := S3x1024x1024) (k0_off2 i) S1x1024x1024.size (k0_off2_inb i h)) (fun _ => rfl)).squeeze S1024x1024 squeezes_S1x1024x1024_S1024x1024)
      ((A4_whole.wordExact_slice rfl _ (k0_off2_wordsbf16 i h)).reshape _ _) ((A3_whole.wordExact_slice rfl _ (k0_off2_wordsbf16 i h)).reshape _ _)) fun _ => K
  else K

/-- The staging of the chunk. -/
def seg3 (arg1 : Memref sig .tc .vmem S1024x1024 .f32) (K : Pg F α) : Pg F α :=
  if h : k0_cond3 i = 1#1 then
    .op (.load arg1 (Rect.unit (s := S1024x1024) ![0, 0] S1024x1024.size inb_S1024x1024_S1024x1024_0_0).toLoadRect (View.loadsAt_vmem h_S1024x1024)) fun v40 =>
      .op (.load A3 (Rect.unit (s := S3x1024x1024) (k0_off3 i) S1x1024x1024.size (k0_off3_inb i h)).toLoadRect (View.loadsAt_vmem h_S1x1024x1024)) fun _ =>
        .op (.store A3 (Rect.unit (s := S3x1024x1024) (k0_off3 i) S1x1024x1024.size (k0_off3_inb i h)) (k0_pay2 v40) Finset.univ
          (View.stores_vmem h_S1x1024x1024 (A3_whole.storeExact_slice rfl _ (k0_off3_packedbf16 i h)) (fun _ => rfl)) (.inl rfl)) fun _ => K
  else K

/-- The credit for the partner. -/
def seg4 (K : Pg F α) : Pg F α :=
  if h : k0_cond4 i = 1#1 then
    .op (.semSignal ((⟨k0_dev2 d0, k0_dev2_lt i d0 h⟩ : Dev nD) : Thread nD τ) crdS (1#32 : BitVec 32).toInt) fun _ => K
  else K

/-- The printed condition of the credit wait, and of the last wait. -/
abbrev cond5 (i : grid0.Coords) : BitVec 1 :=
  Scalar.cmpi .ne (Scalar.extui (Scalar.andi (Scalar.cmpi .sge (BitVec.ofNat 32 (i 0).val) 3#32) (Scalar.cmpi .sle (BitVec.ofNat 32 (i 0).val) 31#32)) : BitVec 32) 0#32
abbrev cond8 (a : BitVec 32) : BitVec 1 :=
  Scalar.cmpi .ne (Scalar.extui (Scalar.cmpi .eq a 33#32) : BitVec 32) 0#32

/-- The wait for a credit. -/
def seg5 (K : Pg F α) : Pg F α :=
  if h : cond5 i = 1#1 then .op (.semWait crdS (1#32 : BitVec 32).toInt) fun _ => K else K

/-- The copy of the chunk. -/
def seg6 (K : Pg F α) : Pg F α :=
  if h : k0_cond6 i = 1#1 then
    .op (.enqueueDma
      ((A3.slice (Rect.unit (s := S3x1024x1024) (k0_off5 i) S1x1024x1024.size (k0_off5_inb i h)) (fun _ => rfl)).squeeze S1024x1024 squeezes_S1x1024x1024_S1024x1024)
      (.remote (Dev.tc (⟨k0_dev3 d0, k0_dev3_lt i d0 h⟩ : Dev nD))
        ((A4.slice (Rect.unit (s := S3x1024x1024) (k0_off5 i) S1x1024x1024.size (k0_off5_inb i h)) (fun _ => rfl)).squeeze S1024x1024 squeezes_S1x1024x1024_S1024x1024)
        (.dma ((cc0_scratch2.slice (Rect.unit (s := S3) (k0_off4 i) S1.size (k0_off4_inb i h))).squeeze S_ squeezes_S1_S_).sem))
      (.dma ((cc0_scratch3.slice (Rect.unit (s := S3) (k0_off4 i) S1.size (k0_off4_inb i h))).squeeze S_ squeezes_S1_S_).sem)
      ((A3_whole.wordExact_slice rfl _ (k0_off5_wordsbf16 i h)).reshape _ _) ((A4_whole.wordExact_slice rfl _ (k0_off5_wordsbf16 i h)).reshape _ _)
      ⟨⟨rfl, Or.inl rfl⟩, trivial⟩) fun _ => K
  else K

/-- The wait for the partner's chunk and the sum. -/
def seg7 (arg2 : Memref sig .tc .vmem S1024x1024 .f32) (K : Pg F α) : Pg F α :=
  if h : k0_cond7 i = 1#1 then
    .op (.waitDma2 ((cc0_scratch3.slice (Rect.unit (s := S3) (k0_off6 i) S1.size (k0_off6_inb i h))).squeeze S_ squeezes_S1_S_).sem
      ((A3.slice (Rect.unit (s := S3x1024x1024) (k0_off7 i) S1x1024x1024.size (k0_off7_inb i h)) (fun _ => rfl)).squeeze S1024x1024 squeezes_S1x1024x1024_S1024x1024)
      ((A4.slice (Rect.unit (s := S3x1024x1024) (k0_off7 i) S1x1024x1024.size (k0_off7_inb i h)) (fun _ => rfl)).squeeze S1024x1024 squeezes_S1x1024x1024_S1024x1024)
      ((A3_whole.wordExact_slice rfl _ (k0_off7_wordsbf16 i h)).reshape _ _) ((A4_whole.wordExact_slice rfl _ (k0_off7_wordsbf16 i h)).reshape _ _)) fun _ =>
    .op (.load A3 (Rect.unit (s := S3x1024x1024) (k0_off8 i) S1x1024x1024.size (k0_off8_inb i h)).toLoadRect (View.loadsAt_vmem h_S1x1024x1024)) fun v75 =>
    .op (.load A4 (Rect.unit (s := S3x1024x1024) (k0_off8 i) S1x1024x1024.size (k0_off8_inb i h)).toLoadRect (View.loadsAt_vmem h_S1x1024x1024)) fun v79 =>
    .op (.load arg2 (Rect.unit (s := S1024x1024) ![0, 0] S1024x1024.size inb_S1024x1024_S1024x1024_0_0).toLoadRect (View.loadsAt_vmem h_S1024x1024)) fun _ =>
    .op (.store arg2 (Rect.unit (s := S1024x1024) ![0, 0] S1024x1024.size inb_S1024x1024_S1024x1024_0_0) (k0_pay1 v75 v79) Finset.univ (View.stores_vmem_bits_univ h_S1024x1024 rfl) (.inl rfl)) fun _ => K
  else K

/-- The wait for the last copy. -/
def seg8 (a : BitVec 32) (K : Pg F α) : Pg F α :=
  if h : cond8 a = 1#1 then
    .op (.waitDma2 ((cc0_scratch2.slice (Rect.unit (s := S3) ![1] S1.size inb_S3_S1_1)).squeeze S_ squeezes_S1_S_).sem
      ((A4.slice (Rect.unit (s := S3x1024x1024) ![1, 0, 0] S1x1024x1024.size inb_S3x1024x1024_S1x1024x1024_1_0_0) (fun _ => rfl)).squeeze S1024x1024 squeezes_S1x1024x1024_S1024x1024)
      ((A3.slice (Rect.unit (s := S3x1024x1024) ![1, 0, 0] S1x1024x1024.size inb_S3x1024x1024_S1x1024x1024_1_0_0) (fun _ => rfl)).squeeze S1024x1024 squeezes_S1x1024x1024_S1024x1024)
      ((A4_whole.wordExact_slice rfl _ wordsbf16_S3x1024x1024_S1x1024x1024_1_0_0).reshape _ _) ((A3_whole.wordExact_slice rfl _ wordsbf16_S3x1024x1024_S1x1024x1024_1_0_0).reshape _ _)) fun _ => K
  else K

end Parts

theorem cond5_iff : ∀ t : Fin grid0.N, cond5 (grid0.coords t) = 1#1 ↔ 3 ≤ t.val ∧ t.val < 32 := by decide +kernel
theorem cond8_iff : ∀ t : Fin grid0.N, cond8 (BitVec.ofNat 32 (grid0.coords t 0).val) = 1#1 ↔ t.val = 33 := by decide +kernel

/-- The words the body's first half hands to the second. -/
def words (i : grid0.Coords) (d0 : Dev nD) : Σ' (_ : BitVec 32) (_ : Dev nD) (_ : BitVec 32) (_ : BitVec 32) (_ : BitVec 32), BitVec 1 :=
  ⟨BitVec.ofNat 32 (i 0).val, d0, Scalar.remsi (Scalar.divsi (Dev.word d0) 4#32) 2#32, Scalar.remsi (Scalar.divsi (Dev.word d0) 2#32) 2#32,
    Scalar.subi 1#32 (Scalar.remsi (Scalar.divsi (Dev.word d0) 1#32) 2#32), Scalar.cmpi .slt (BitVec.ofNat 32 (i 0).val) 32#32⟩

set_option maxRecDepth 65536 in
theorem part2_eq (i : grid0.Coords) (arg1 : Memref sig .tc .vmem S1024x1024 .f32) (h1 : arg1.IsWhole)
    (arg2 : Memref sig .tc .vmem S1024x1024 .f32) (h2 : arg2.IsWhole) :
    k0_part2_skel (F := F) i arg1 h1 arg2 h2 A3 A3_whole A4 A4_whole cc0_scratch2 cc0_scratch3 cc0_scratch4
      = .op .deviceId fun d0 => seg1 i d0 (seg2 i (seg3 i arg1 (seg4 i d0 (seg5 i (.ret (words i d0)))))) := rfl

set_option maxRecDepth 65536 in
theorem body_eq (i : grid0.Coords) (arg1 : Memref sig .tc .vmem S1024x1024 .f32) (h1 : arg1.IsWhole)
    (arg2 : Memref sig .tc .vmem S1024x1024 .f32) (h2 : arg2.IsWhole) :
    cc0_body_skel (F := F) i arg1 h1 arg2 h2 A3 A3_whole A4 A4_whole cc0_scratch2 cc0_scratch3 cc0_scratch4
      = k0_part2_skel (F := F) i arg1 h1 arg2 h2 A3 A3_whole A4 A4_whole cc0_scratch2 cc0_scratch3 cc0_scratch4 >>= fun x =>
          seg6 i x.2.1 (seg7 i arg2 (seg8 x.1 (.ret ⟨⟩))) := rfl

/-- The body is its parts in order. -/
theorem wp_body (c : Dev nD) (i : grid0.Coords) (arg1 : Memref sig .tc .vmem S1024x1024 .f32) (h1 : arg1.IsWhole)
    (arg2 : Memref sig .tc .vmem S1024x1024 .f32) (h2 : arg2.IsWhole) (Q : PUnit → sProp 𝕄) :
    wpc c (cc0_body_skel i arg1 h1 arg2 h2 A3 A3_whole A4 A4_whole cc0_scratch2 cc0_scratch3 cc0_scratch4) Q
      = wpc c (seg1 i c (seg2 i (seg3 i arg1 (seg4 i c (seg5 i (.ret (words i c)))))))
          fun x => wpc c (seg6 i x.2.1 (seg7 i arg2 (seg8 x.1 (.ret ⟨⟩)))) Q := by
  unfold wpc
  rw [body_eq, wp_bind, part2_eq, wp_deviceId]

end Cert.SwapIdeal

end
-- ==== Proof.Ideal.Inv.lean ====
/-
What a device holds at each point of the kernel, and how each part of the body changes it.
-/
module

public import proofs.«01_k».proof.Proof.Ideal.Segs
public import Idealize.SL.BI.BigOpNat

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Taking the first of a run, and adding one after its last -/

theorem pop {a b : ℕ} (h : a < b) {A : ℕ → sProp 𝕄} {P : sProp 𝕄} (e : A a = P) :
    bigSep (Finset.Ico a b) A ⊢ iprop(P ∗ bigSep (Finset.Ico (a + 1) b) A) := e ▸ Entails.of_eq (bigSep_Ico_succ_bot h A)
theorem unpop {a b : ℕ} (h : a < b) {A : ℕ → sProp 𝕄} {P : sProp 𝕄} (e : A a = P) :
    iprop(P ∗ bigSep (Finset.Ico (a + 1) b) A) ⊢ bigSep (Finset.Ico a b) A := e ▸ Entails.of_eq (bigSep_Ico_succ_bot h A).symm
theorem push {a b : ℕ} (h : a ≤ b) {A : ℕ → sProp 𝕄} {P : sProp 𝕄} (e : A b = P) :
    iprop(P ∗ bigSep (Finset.Ico a b) A) ⊢ bigSep (Finset.Ico a (b + 1)) A := e ▸ Entails.of_eq (bigSep_Ico_succ_top h A).symm
theorem upPush {n : ℕ} {A : ℕ → sProp 𝕄} {P : sProp 𝕄} (e : A n = P) :
    iprop(P ∗ bigSep (Finset.range n) A) ⊢ bigSep (Finset.range (n + 1)) A := e ▸ Entails.of_eq (bigSep_range_succ n A).symm
theorem upGet {j n : ℕ} (h : j < n) {A : ℕ → sProp 𝕄} {P : sProp 𝕄} (e : A j = P) :
    bigSep (Finset.range n) A ⊢ P := e ▸ bigSep_elim (Finset.mem_range.mpr h)

theorem div_add (j : ℕ) : (j + 3) / 3 = j / 3 + 1 := Nat.add_div_right j (by decide)

/-! ## What a device holds, one family per kind of thing, indexed by the chunk -/

/-- The positions at the copies' own cells, and what says that they were reached. -/
def sndP (c : Dev nD) (j : ℕ) : sProp 𝕄 := atPos ER (sndC c (sl j)) (j / 3) ∅ 0
def sndR (c : Dev nD) (j : ℕ) : sProp 𝕄 := reached ER (sndC c (sl j)) (j / 3)
def rcvP (c : Dev nD) (j : ℕ) : sProp 𝕄 := atPos ER (rcvC c (sl j)) (j / 3) ∅ 0
def rcvR (c : Dev nD) (j : ℕ) : sProp 𝕄 := reached ER (rcvC c (sl j)) (j / 3)
/-- The reader's position at a landing slot. -/
def rdP (c : Dev nD) (j : ℕ) : sProp 𝕄 := Release.readerAt ES (c, sl j) (j / 3)
/-- What lets chunk `j` be copied. -/
def tokP (c : Dev nD) (j : ℕ) : sProp 𝕄 :=
  iprop(dutyTok ER (sndC c (sl j)) (j / 3) 0 ∗ dutyTok ER (rcvC (peer c) (sl j)) (j / 3) 0 ∗ Release.writeTok ES (peer c, sl j) (j / 3 + 1))
/-- A chunk on its way: what its wait needs, and the half of its staging slot kept back. -/
def flP (c : Dev nD) (j : ℕ) : sProp 𝕄 :=
  iprop(cred (tallyAt (sndC c (sl j)) 0 N) ∗ stPts c (sl j) fullShare.left (spread (wb m c j)))
/-- A staging slot that nothing reads. -/
def frP (c : Dev nD) (j : ℕ) : sProp 𝕄 := iprop(∃ f, stPts c (sl j) fullShare f)
/-- A staging slot holding its chunk. -/
def sgP (c : Dev nD) (j : ℕ) : sProp 𝕄 := stPts c (sl j) fullShare (spread (wb m c j))
/-- What the waits for the partner's chunk and credit need, and what lets the credit be given. -/
def rcP (c : Dev nD) (j : ℕ) : sProp 𝕄 := cred (tallyAt (rcvC c (sl j)) j N)
def ciP (c : Dev nD) (j : ℕ) : sProp 𝕄 := cred (tallyAt (crdC c) j 1)
def coP (c : Dev nD) (j : ℕ) : sProp 𝕄 := dutyTok ER (crdC (peer c)) 0 j
/-- A landing slot that was read. -/
def mnP (c : Dev nD) (j : ℕ) : sProp 𝕄 := rvAny c (sl j)

instance sndR_persistent (c : Dev nD) (j : ℕ) : BI.Persistent (sndR (F := F) c j) := by unfold sndR; infer_instance
instance rcvR_persistent (c : Dev nD) (j : ℕ) : BI.Persistent (rcvR (F := F) c j) := by unfold rcvR; infer_instance

theorem sndP_next (c : Dev nD) (j : ℕ) : (sndP c (j + 3) : sProp 𝕄) = atPos ER (sndC c (sl j)) (j / 3 + 1) ∅ 0 := by
  unfold sndP; rw [sl_add, div_add]
theorem sndR_next (c : Dev nD) (j : ℕ) : (sndR c (j + 3) : sProp 𝕄) = reached ER (sndC c (sl j)) (j / 3 + 1) := by
  unfold sndR; rw [sl_add, div_add]
theorem rcvP_next (c : Dev nD) (j : ℕ) : (rcvP c (j + 3) : sProp 𝕄) = atPos ER (rcvC c (sl j)) (j / 3 + 1) ∅ 0 := by
  unfold rcvP; rw [sl_add, div_add]
theorem rcvR_next (c : Dev nD) (j : ℕ) : (rcvR c (j + 3) : sProp 𝕄) = reached ER (rcvC c (sl j)) (j / 3 + 1) := by
  unfold rcvR; rw [sl_add, div_add]
theorem rdP_next (c : Dev nD) (j : ℕ) : (rdP c (j + 3) : sProp 𝕄) = Release.readerAt ES (c, sl j) (j / 3 + 1) := by
  unfold rdP; rw [sl_add, div_add]
theorem frP_next (c : Dev nD) (j : ℕ) : (frP c (j + 3) : sProp 𝕄) = iprop(∃ f, stPts c (sl j) fullShare f) := by
  unfold frP; rw [sl_add]

theorem sndP_eq (c : Dev nD) (j : ℕ) : (sndP c j : sProp 𝕄) = atPos ER (sndC c (sl j)) (j / 3) ∅ 0 := rfl
theorem sndR_eq (c : Dev nD) (j : ℕ) : (sndR c j : sProp 𝕄) = reached ER (sndC c (sl j)) (j / 3) := rfl
theorem rcvP_eq (c : Dev nD) (j : ℕ) : (rcvP c j : sProp 𝕄) = atPos ER (rcvC c (sl j)) (j / 3) ∅ 0 := rfl
theorem rcvR_eq (c : Dev nD) (j : ℕ) : (rcvR c j : sProp 𝕄) = reached ER (rcvC c (sl j)) (j / 3) := rfl
theorem rdP_eq (c : Dev nD) (j : ℕ) : (rdP c j : sProp 𝕄) = Release.readerAt ES (c, sl j) (j / 3) := rfl
theorem tokP_eq (c : Dev nD) (j : ℕ) : (tokP c j : sProp 𝕄)
    = iprop(dutyTok ER (sndC c (sl j)) (j / 3) 0 ∗ dutyTok ER (rcvC (peer c) (sl j)) (j / 3) 0 ∗ Release.writeTok ES (peer c, sl j) (j / 3 + 1)) := rfl
theorem flP_eq (c : Dev nD) (j : ℕ) : (flP m c j : sProp 𝕄)
    = iprop(cred (tallyAt (sndC c (sl j)) 0 N) ∗ stPts c (sl j) fullShare.left (spread (wb m c j))) := rfl
theorem frP_eq (c : Dev nD) (j : ℕ) : (frP c j : sProp 𝕄) = iprop(∃ f, stPts c (sl j) fullShare f) := rfl
theorem sgP_eq (c : Dev nD) (j : ℕ) : (sgP m c j : sProp 𝕄) = stPts c (sl j) fullShare (spread (wb m c j)) := rfl
theorem rcP_eq (c : Dev nD) (j : ℕ) : (rcP c j : sProp 𝕄) = cred (tallyAt (rcvC c (sl j)) j N) := rfl
theorem ciP_eq (c : Dev nD) (j : ℕ) : (ciP c j : sProp 𝕄) = cred (tallyAt (crdC c) j 1) := rfl
theorem coP_eq (c : Dev nD) (j : ℕ) : (coP c j : sProp 𝕄) = dutyTok ER (crdC (peer c)) 0 j := rfl
theorem mnP_eq (c : Dev nD) (j : ℕ) : (mnP c j : sProp 𝕄) = rvAny c (sl j) := rfl
theorem Avail_eq (p : Dev nD) (j : ℕ) : (Avail p j : sProp 𝕄) = iprop(Release.released ES (p, sl j) (j / 3 + 1) ∗ reached ER (rcvC p (sl j)) (j / 3)) := rfl

/-- A staging slot in halves, and whole again. -/
theorem st_join (c : Dev nD) (s : Fin 3) (f : Buf (Elt F) ((c : Thread nD τ).loc cc0_scratch0)) :
    iprop(stPts c s fullShare.left f ∗ stPts c s fullShare.right f) ⊢ (stPts c s fullShare f : sProp 𝕄) :=
  (pointsTo_share (ℓ := (c : Thread nD τ).loc cc0_scratch0) (I := cellsOf s) (f := f) (PosShare.mem_left_op_right fullShare)).mpr
theorem st_halves (c : Dev nD) (s : Fin 3) (f : Buf (Elt F) ((c : Thread nD τ).loc cc0_scratch0)) :
    (stPts c s fullShare f : sProp 𝕄) ⊢ iprop(stPts c s fullShare.left f ∗ stPts c s fullShare.right f) :=
  (pointsTo_share (ℓ := (c : Thread nD τ).loc cc0_scratch0) (I := cellsOf s) (f := f) (PosShare.mem_left_op_right fullShare)).mp

theorem any_of_rv (c : Dev nD) (s : Fin 3) (f : Buf (Elt F) ((c : Thread nD τ).loc cc0_scratch1)) : (rvPts c s f : sProp 𝕄) ⊢ rvAny c s := by
  unfold rvPts rvAny Release.slot
  iintro H; iexists f; iexact H

/-- What a device holds beside its windows between two parts of its body. Of its own chunks it has waited for
    the leaving of `sd`, staged `a`, copied `n`; of its partner's it has taken in `rd`; it has freed its landing
    slots for the chunks below `kr` and knows its partner's to be free for those below `ki`. -/
def Rest (c : Dev nD) (sd a n rd kr ki : ℕ) : sProp 𝕄 :=
  iprop(bigSep (Finset.Ico sd (sd + 3)) (sndP c) ∗ bigSep (Finset.range (sd + 3)) (sndR c)
    ∗ bigSep (Finset.Ico rd (rd + 3)) (rcvP c) ∗ bigSep (Finset.range (rd + 3)) (rcvR c)
    ∗ bigSep (Finset.Ico kr (kr + 3)) (rdP c) ∗ AvailTo c kr ∗ AvailTo (peer c) ki ∗ crdPos c ki
    ∗ bigSep (Finset.Ico n 32) (tokP c) ∗ bigSep (Finset.Ico sd n) (flP m c) ∗ bigSep (Finset.Ico n a) (sgP m c)
    ∗ bigSep (Finset.Ico a (sd + 3)) (frP c)
    ∗ bigSep (Finset.Ico rd 32) (rcP c) ∗ bigSep (Finset.Ico ki 32) (ciP c) ∗ bigSep (Finset.Ico kr 32) (coP c)
    ∗ bigSep (Finset.Ico (kr - 3) rd) (mnP c) ∗ atPos ER (barC c) 1 ∅ 0)

/-- The same with what the device owes. -/
def Core (c : Dev nD) (sd a n rd kr ki : ℕ) : sProp 𝕄 := iprop(owe c (Ow c n kr) ∗ Rest m c sd a n rd kr ki)

/-! ## What every device knows -/

/-- The kernel's cells of one device. -/
abbrev Cl : Type := Fin 2 ⊕ (Bool × Fin 3)
def csem : Cl → SemLoc sig
  | .inl 0 => .reg barS
  | .inl 1 => .reg crdS
  | .inr (false, s) => .dma (sndS s)
  | .inr (true, s) => .dma (rcvS s)
def kcell (x : Dev nD × Cl) : GSem nD τ sig := ((x.1 : Thread nD τ), csem x.2)

def World : sProp 𝕄 :=
  iprop(levAts L lv ∗ bigSep Finset.univ (fun x : Dev nD × Cl => iprop(∃ κ, cellInv ER (Rd m) κ (kcell x)))
    ∗ bigSep Finset.univ (fun x : Dev nD × Fin 3 => iprop(∃ ι, Release.slotInv ES ι x (rvAny x.1 x.2)))
    ∗ bigSep Finset.univ (fun p : Dev nD => reached ER (crdC p) 0))

instance World_persistent : BI.Persistent (World (F := F) m) := by unfold World; infer_instance

theorem world_lev : World m ⊢ (levAts L lv : sProp 𝕄) := by
  unfold World; iintro ⟨H, -⟩; iexact H
theorem world_cell (x : Dev nD × Cl) : World m ⊢ (∃ κ, cellInv ER (Rd m) κ (kcell x) : sProp 𝕄) := by
  have h : bigSep Finset.univ (fun x : Dev nD × Cl => iprop(∃ κ, cellInv ER (Rd m) κ (kcell x))) ⊢ (∃ κ, cellInv ER (Rd m) κ (kcell x) : sProp 𝕄) :=
    bigSep_elim (Finset.mem_univ x)
  unfold World; iintro ⟨-, H, -⟩
  iapply h; iexact H
theorem world_bar (c : Dev nD) : World m ⊢ (∃ κ, cellInv ER (Rd m) κ (barC c) : sProp 𝕄) := world_cell m (c, .inl 0)
theorem world_crd (c : Dev nD) : World m ⊢ (∃ κ, cellInv ER (Rd m) κ (crdC c) : sProp 𝕄) := world_cell m (c, .inl 1)
theorem world_snd (c : Dev nD) (s : Fin 3) : World m ⊢ (∃ κ, cellInv ER (Rd m) κ (sndC c s) : sProp 𝕄) := world_cell m (c, .inr (false, s))
theorem world_rcv (c : Dev nD) (s : Fin 3) : World m ⊢ (∃ κ, cellInv ER (Rd m) κ (rcvC c s) : sProp 𝕄) := world_cell m (c, .inr (true, s))
theorem world_slot (c : Dev nD) (s : Fin 3) : World m ⊢ (∃ ι, Release.slotInv ES ι (c, s) (rvAny c s) : sProp 𝕄) := by
  have h : bigSep Finset.univ (fun x : Dev nD × Fin 3 => iprop(∃ ι, Release.slotInv ES ι x (rvAny x.1 x.2)))
      ⊢ (∃ ι, Release.slotInv ES ι (c, s) (rvAny c s) : sProp 𝕄) :=
    bigSep_elim (Φ := fun x : Dev nD × Fin 3 => iprop(∃ ι, Release.slotInv ES ι x (rvAny x.1 x.2))) (Finset.mem_univ (c, s))
  unfold World; iintro ⟨-, -, H, -⟩
  iapply h; iexact H
theorem world_reached (p : Dev nD) : World m ⊢ (reached ER (crdC p) 0 : sProp 𝕄) := by
  have h : bigSep Finset.univ (fun p : Dev nD => reached ER (crdC p) 0) ⊢ (reached ER (crdC p) 0 : sProp 𝕄) := bigSep_elim (Finset.mem_univ p)
  unfold World; iintro ⟨-, -, -, H⟩
  iapply h; iexact H

section Parts
variable {α : Type} (c : Dev nD)

/-- The wait until chunk `sd` has left frees its staging slot. -/
theorem snd_wait (Q : α → sProp 𝕄) (sd a n rd kr ki : ℕ) (h₁ : sd < n) (h₂ : a ≤ sd + 3) (h₃ : sd < 32)
    {src dst : Memref sig .tc .vmem S1024x1024 .bf16} (hd : dst.view.dmaCredit = N) {q : DmaSem sig} (hq : q = sndS (sl sd))
    {hsrc : src.view.WordExact} {hdst : dst.view.WordExact} (K : PUnit → Pg F α) :
    iprop(World m ∗ Core m c sd a n rd kr ki)
      ⊢ iprop((Core m c (sd + 1) a n rd kr ki -∗ wpc c (K ⟨⟩) Q) -∗ wpc c (.op (.waitDma2 q src dst hsrc hdst) K) Q) := by
  unfold Core Rest
  iintro ⟨#HW, HO, Hsp, #Hsr, Hrp, #Hrr, Hrd, #Ha₁, #Ha₂, Hcp, Htk, Hfl, Hsg, Hfr, Hrc, Hci, Hco, Hmn, Hb⟩ HK
  ihave #⟨%κ, HI⟩ := (world_snd m c (sl sd)) $$ HW
  ihave #Hlev := (world_lev m) $$ HW
  icases (pop (by omega) (sndP_eq c sd)) $$ Hsp with ⟨Hp, Hsp⟩
  icases (pop h₁ (flP_eq m c sd)) $$ Hfl with ⟨⟨Hc, Hl⟩, Hfl⟩
  iapply (step_snd_wait m c Q sd h₃ n kr hd hq K) $$ [HO Hc Hp]
  · isplitr; · iexact HI
    isplitr; · iexact Hlev
    isplitl [Hc]; · iexact Hc
    isplitl [HO]; · iexact HO
    iexact Hp
  iintro ⟨HO, ⟨Hp, #Hr⟩, Hh⟩
  iapply HK
  ihave Hs := (st_join c (sl sd) (spread (wb m c sd))) $$ [Hl Hh]
  · isplitl [Hl]; · iexact Hl
    iexact Hh
  rw [show sd + 1 + 3 = sd + 3 + 1 from rfl]
  isplitl [HO]; · iexact HO
  isplitl [Hp Hsp]
  · iapply (push (by omega) (sndP_next c sd)); isplitl [Hp]; · iexact Hp
    iexact Hsp
  isplitr
  · iapply (upPush (sndR_next c sd)); isplitr; · iexact Hr
    iexact Hsr
  isplitl [Hrp]; · iexact Hrp
  isplitr; · iexact Hrr
  isplitl [Hrd]; · iexact Hrd
  isplitr; · iexact Ha₁
  isplitr; · iexact Ha₂
  isplitl [Hcp]; · iexact Hcp
  isplitl [Htk]; · iexact Htk
  isplitl [Hfl]; · iexact Hfl
  isplitl [Hsg]; · iexact Hsg
  isplitl [Hs Hfr]
  · iapply (push h₂ (frP_next c sd)); isplitl [Hs]
    · iexists _; iexact Hs
    iexact Hfr
  iframe

theorem seg2_run (Q : α → sProp 𝕄) (t : Fin grid0.N) (a n rd kr ki : ℕ) (h₁ : t.val < n + 3) (h₂ : a ≤ t.val) (K : Pg F α) :
    iprop(World m ∗ Core m c (t.val - 3) a n rd kr ki)
      ⊢ iprop((Core m c (t.val + 1 - 3) a n rd kr ki -∗ wpc c K Q) -∗ wpc c (seg2 (grid0.coords t) K) Q) := by
  have ht : t.val < 34 := t.isLt
  unfold seg2
  by_cases hc : k0_cond2 (grid0.coords t) = 1#1
  · have h3 := (cond2_iff t).mp hc
    rw [dif_pos hc, show t.val + 1 - 3 = t.val - 3 + 1 by omega]
    exact snd_wait m c Q (t.val - 3) a n rd kr ki (by omega) (by omega) (by omega)
      ((congrArg (fun M : Memref sig .tc .vmem S1024x1024 .bf16 => M.view.dmaCredit) (st_of (off2_eq t h3) _ _)).trans (N_st _))
      (snd_of (off1_eq t h3) _) (fun _ => K)
  · have h3 : ¬ 3 ≤ t.val := fun h => hc ((cond2_iff t).mpr h)
    rw [dif_neg hc, show t.val + 1 - 3 = t.val - 3 by omega]
    iintro ⟨-, H⟩ HK
    iapply HK; iexact H

theorem seg8_run (Q : α → sProp 𝕄) (t : Fin grid0.N) (ht : t.val = 33) (rd kr ki : ℕ) (K : Pg F α) :
    iprop(World m ∗ Core m c 31 32 32 rd kr ki)
      ⊢ iprop((Core m c 32 32 32 rd kr ki -∗ wpc c K Q) -∗ wpc c (seg8 (BitVec.ofNat 32 (grid0.coords t 0).val) K) Q) := by
  unfold seg8
  rw [dif_pos ((cond8_iff t).mpr ht)]
  exact snd_wait m c Q 31 32 32 rd kr ki (by omega) (by omega) (by omega)
    ((congrArg (fun M : Memref sig .tc .vmem S1024x1024 .bf16 => M.view.dmaCredit) (st_of (s := sl 31) rfl _ _)).trans (N_st _))
    (snd_of (s := sl 31) rfl _) (fun _ => K)
theorem seg8_skip (t : Fin grid0.N) (ht : t.val ≠ 33) (K : Pg F α) : seg8 (BitVec.ofNat 32 (grid0.coords t 0).val) K = K := by
  unfold seg8
  rw [dif_neg (fun h => ht ((cond8_iff t).mp h))]

/-- The chunk is staged in the slot that has become free. -/
theorem seg3_run (Q : α → sProp 𝕄) (t : Fin grid0.N) (sd n rd kr ki : ℕ) (h₁ : t.val < sd + 3) (h₂ : n ≤ min t.val 32)
    {M : Memref sig .tc .vmem S1024x1024 .f32} (hM : M.IsWhole) (K : Pg F α) :
    iprop(owns (c : Thread nD τ) M fullShare (xb m c t.val) ∗ Core m c sd (min t.val 32) n rd kr ki)
      ⊢ iprop((owns (c : Thread nD τ) M fullShare (xb m c t.val) ∗ Core m c sd (min (t.val + 1) 32) n rd kr ki -∗ wpc c K Q)
        -∗ wpc c (seg3 (grid0.coords t) M K) Q) := by
  unfold seg3
  by_cases hc : k0_cond3 (grid0.coords t) = 1#1
  · have h3 := (cond3_iff t).mp hc
    rw [dif_pos hc, show min t.val 32 = t.val by omega, show min (t.val + 1) 32 = t.val + 1 by omega]
    unfold Core Rest
    iintro ⟨HM, HO, Hsp, #Hsr, Hrp, #Hrr, Hrd, #Ha₁, #Ha₂, Hcp, Htk, Hfl, Hsg, Hfr, Hrc, Hci, Hco, Hmn, Hb⟩ HK
    icases (pop h₁ (frP_eq c t.val)) $$ Hfr with ⟨⟨%f, Hf⟩, Hfr⟩
    iapply (step_ld_win c Q hM (xb m c t.val)) $$ HM
    iintro HM
    iapply (step_ld_any c Q (sl t.val) fullShare f (off3_eq t) (k0_off3_inb (grid0.coords t) hc)) $$ Hf
    iintro Hf
    iapply (step_st c Q (sl t.val) f (wb m c t.val) (off3_eq t) (k0_off3_inb (grid0.coords t) hc)) $$ Hf
    iintro Hf
    iapply HK
    isplitl [HM]; · iexact HM
    isplitl [HO]; · iexact HO
    isplitl [Hsp]; · iexact Hsp
    isplitr; · iexact Hsr
    isplitl [Hrp]; · iexact Hrp
    isplitr; · iexact Hrr
    isplitl [Hrd]; · iexact Hrd
    isplitr; · iexact Ha₁
    isplitr; · iexact Ha₂
    isplitl [Hcp]; · iexact Hcp
    isplitl [Htk]; · iexact Htk
    isplitl [Hfl]; · iexact Hfl
    isplitl [Hsg Hf]
    · iapply (push (by omega) (sgP_eq m c t.val)); isplitl [Hf]; · iexact Hf
      iexact Hsg
    iframe
  · have h3 : ¬ t.val < 32 := fun h => hc ((cond3_iff t).mpr h)
    rw [dif_neg hc, show min t.val 32 = 32 by omega, show min (t.val + 1) 32 = 32 by omega]
    iintro H HK
    iapply HK; iexact H

theorem availTo_succ (p : Dev nD) (n : ℕ) : iprop(Avail p n ∗ AvailTo p n) ⊢ (AvailTo p (n + 1) : sProp 𝕄) := by
  unfold AvailTo; exact upPush rfl

/-- Freeing the landing slot for chunk `a`. -/
theorem release_one (a : ℕ) :
    iprop(World m ∗ bigSep (Finset.Ico a (a + 3)) (rdP c) ∗ rvAny c (sl a) ∗ rcvR c a ∗ AvailTo c a)
      ⊢ (|={Set.univ}=> (bigSep (Finset.Ico (a + 1) (a + 1 + 3)) (rdP c) ∗ AvailTo c (a + 1)) : sProp 𝕄) := by
  iintro ⟨#HW, Hrd, Hv, #Hr, #Ha⟩
  ihave #⟨%ι, HI⟩ := (world_slot m c (sl a)) $$ HW
  icases (pop (by omega) (rdP_eq c a)) $$ Hrd with ⟨Hp, Hrd⟩
  imod (Release.slot_release (E := ES) (ι := ι) (k := (c, sl a)) (S := rvAny c (sl a)) (Set.mem_univ ι)
    (Release.slot_slot_false (cellsOf_nonempty (sl a))) (a / 3)) $$ [Hp Hv] with ⟨Hp, #Hrel⟩
  · isplitr; · iexact HI
    isplitl [Hp]; · iexact Hp
    iexact Hv
  imodintro
  isplitl [Hp Hrd]
  · iapply (push (b := a + 3) (by omega) (rdP_next c a)); isplitl [Hp]; · iexact Hp
    iexact Hrd
  iapply (availTo_succ c a)
  isplitr
  · rw [Avail_eq, ← rcvR_eq]; isplitr; · iexact Hrel
    iexact Hr
  iexact Ha

/-- The landing slot for the chunk is freed, and the partner told. -/
theorem seg4_run (Q : α → sProp 𝕄) (t : Fin grid0.N) (sd a n rd ki : ℕ) (h₁ : t.val < rd + 3) (K : Pg F α) :
    iprop(World m ∗ Core m c sd a n rd (max 3 (min t.val 32)) ki)
      ⊢ iprop((Core m c sd a n rd (max 3 (min (t.val + 1) 32)) ki -∗ wpc c K Q) -∗ wpc c (seg4 (grid0.coords t) c K) Q) := by
  unfold seg4
  by_cases hc : k0_cond4 (grid0.coords t) = 1#1
  · have h3 := (cond4_iff t).mp hc
    rw [dif_pos hc, show max 3 (min t.val 32) = t.val by omega, show max 3 (min (t.val + 1) 32) = t.val + 1 by omega]
    unfold Core Rest
    iintro ⟨#HW, HO, Hsp, #Hsr, Hrp, #Hrr, Hrd, #Ha₁, #Ha₂, Hcp, Htk, Hfl, Hsg, Hfr, Hrc, Hci, Hco, Hmn, Hb⟩ HK
    ihave #⟨%κ, HI⟩ := (world_crd m (peer c)) $$ HW
    ihave #Hr0 := (world_reached m (peer c)) $$ HW
    ihave #Hr := (upGet h₁ (show rcvR (F := F) c t.val = rcvR c t.val from rfl)) $$ Hrr
    have hsl : mnP (F := F) c (t.val - 3) = rvAny c (sl t.val) := by
      rw [mnP_eq, ← sl_add (t.val - 3), show t.val - 3 + 3 = t.val by omega]
    icases (pop (by omega) hsl) $$ Hmn with ⟨Hv, Hmn⟩
    icases (pop h3.2 (coP_eq c t.val)) $$ Hco with ⟨Ht, Hco⟩
    iapply fupd_wp
    imod (release_one m c t.val) $$ [Hrd Hv] with ⟨Hrd, #Ha₁'⟩
    · isplitr; · iexact HW
      isplitl [Hrd]; · iexact Hrd
      isplitl [Hv]; · iexact Hv
      isplitr; · iexact Hr
      iexact Ha₁
    imodintro
    iapply (step_crd_signal m c Q (dev2_peer c _) (fun _ => K) n t.val h3.1 h3.2) $$ [HO Ht]
    · isplitr; · iexact HI
      isplitl [HO]; · iexact HO
      isplitl [Ht]; · iexact Ht
      isplitr; · iexact Ha₁'
      iexact Hr0
    iintro HO
    iapply HK
    rw [show t.val - 3 + 1 = t.val + 1 - 3 by omega]
    isplitl [HO]; · iexact HO
    isplitl [Hsp]; · iexact Hsp
    isplitr; · iexact Hsr
    isplitl [Hrp]; · iexact Hrp
    isplitr; · iexact Hrr
    isplitl [Hrd]; · iexact Hrd
    isplitr; · iexact Ha₁'
    isplitr; · iexact Ha₂
    iframe
  · have h3 : ¬ (3 ≤ t.val ∧ t.val < 32) := fun h => hc ((cond4_iff t).mpr h)
    rw [dif_neg hc, show max 3 (min (t.val + 1) 32) = max 3 (min t.val 32) by omega]
    iintro ⟨-, H⟩ HK
    iapply HK; iexact H

/-- The partner's landing slot for the chunk is known to be free. -/
theorem seg5_run (Q : α → sProp 𝕄) (t : Fin grid0.N) (sd a n rd : ℕ) (h₁ : t.val < 32 → t.val ≤ n) (K : Pg F α) :
    iprop(World m ∗ Core m c sd a n rd (max 3 (min (t.val + 1) 32)) (max 3 (min t.val 32)))
      ⊢ iprop((Core m c sd a n rd (max 3 (min (t.val + 1) 32)) (max 3 (min (t.val + 1) 32)) -∗ wpc c K Q) -∗ wpc c (seg5 (grid0.coords t) K) Q) := by
  unfold seg5
  by_cases hc : cond5 (grid0.coords t) = 1#1
  · have h3 := (cond5_iff t).mp hc
    rw [dif_pos hc, show max 3 (min t.val 32) = t.val by omega, show max 3 (min (t.val + 1) 32) = t.val + 1 by omega]
    unfold Core Rest
    iintro ⟨#HW, HO, Hsp, #Hsr, Hrp, #Hrr, Hrd, #Ha₁, #Ha₂, Hcp, Htk, Hfl, Hsg, Hfr, Hrc, Hci, Hco, Hmn, Hb⟩ HK
    ihave #⟨%κ, HI⟩ := (world_crd m c) $$ HW
    ihave #Hlev := (world_lev m) $$ HW
    icases (pop h3.2 (ciP_eq c t.val)) $$ Hci with ⟨Hc, Hci⟩
    iapply (step_crd_wait m c Q (fun _ => K) n t.val h3.1 h3.2 (h₁ h3.2)) $$ [HO Hc Hcp]
    · isplitr; · iexact HI
      isplitr; · iexact Hlev
      isplitl [Hc]; · iexact Hc
      isplitl [HO]; · iexact HO
      iexact Hcp
    iintro ⟨HO, Hcp, #Hav⟩
    iapply HK
    isplitl [HO]; · iexact HO
    isplitl [Hsp]; · iexact Hsp
    isplitr; · iexact Hsr
    isplitl [Hrp]; · iexact Hrp
    isplitr; · iexact Hrr
    isplitl [Hrd]; · iexact Hrd
    isplitr; · iexact Ha₁
    isplitr
    · iapply (availTo_succ (peer c) t.val); isplitr; · iexact Hav
      iexact Ha₂
    iframe
  · have h3 : ¬ (3 ≤ t.val ∧ t.val < 32) := fun h => hc ((cond5_iff t).mpr h)
    rw [dif_neg hc, show max 3 (min (t.val + 1) 32) = max 3 (min t.val 32) by omega]
    iintro ⟨-, H⟩ HK
    iapply HK; iexact H

/-- The chunk is copied. -/
theorem seg6_run (Q : α → sProp 𝕄) (t : Fin grid0.N) (sd rd kr ki : ℕ) (h₁ : t.val < 32 → t.val < ki ∧ t.val < sd + 3 ∧ sd ≤ t.val) (K : Pg F α) :
    iprop(World m ∗ Core m c sd (min (t.val + 1) 32) (min t.val 32) rd kr ki)
      ⊢ iprop((Core m c sd (min (t.val + 1) 32) (min (t.val + 1) 32) rd kr ki -∗ wpc c K Q) -∗ wpc c (seg6 (grid0.coords t) c K) Q) := by
  unfold seg6
  by_cases hc : k0_cond6 (grid0.coords t) = 1#1
  · have h3 := (cond6_iff t).mp hc
    obtain ⟨hk, hs, hs'⟩ := h₁ h3
    rw [dif_pos hc, show min t.val 32 = t.val by omega, show min (t.val + 1) 32 = t.val + 1 by omega]
    unfold Core Rest
    iintro ⟨#HW, HO, Hsp, #Hsr, Hrp, #Hrr, Hrd, #Ha₁, #Ha₂, Hcp, Htk, Hfl, Hsg, Hfr, Hrc, Hci, Hco, Hmn, Hb⟩ HK
    ihave #⟨%κ₁, HI₁⟩ := (world_snd m c (sl t.val)) $$ HW
    ihave #⟨%κ₂, HI₂⟩ := (world_rcv m (peer c) (sl t.val)) $$ HW
    ihave #⟨%ι, HS⟩ := (world_slot m (peer c) (sl t.val)) $$ HW
    ihave #Hr₁ := (upGet hs (sndR_eq c t.val)) $$ Hsr
    have hav : (AvailTo (peer c) ki : sProp 𝕄) ⊢ iprop(Release.released ES (peer c, sl t.val) (t.val / 3 + 1) ∗ reached ER (rcvC (peer c) (sl t.val)) (t.val / 3)) :=
      avail_of_lt (peer c) hk
    ihave #⟨Hrel, Hr₂⟩ := hav $$ Ha₂
    icases (pop h3 (tokP_eq c t.val)) $$ Htk with ⟨⟨Ht₁, Ht₂, Hw⟩, Htk⟩
    icases (pop (by omega) (sgP_eq m c t.val)) $$ Hsg with ⟨Hst, Hsg⟩
    icases (st_halves c (sl t.val) (spread (wb m c t.val))) $$ Hst with ⟨Hl, Hh⟩
    iapply fupd_wp
    imod (Release.slot_take (E := ES) (ι := ι) (k := (peer c, sl t.val)) (S := rvAny (peer c) (sl t.val)) (Set.mem_univ ι) (t.val / 3 + 1)) $$ [Hw] with Hv
    · isplitr; · iexact HS
      isplitr; · iexact Hrel
      iexact Hw
    imodintro
    iapply (step_copy m c Q (dev3_peer c _) t.val kr h3 (st_of (off5_eq t) _ _) (rv_of (off5_eq t) _ _) (snd_of (off4_eq t) _) (rcv_of (off4_eq t) _)
      (fun _ => K)) $$ [Hh Hv HO Ht₁ Ht₂]
    · isplitr; · iexact HI₁
      isplitr; · iexact HI₂
      isplitl [Hh]; · iexact Hh
      isplitl [Hv]; · iexact Hv
      isplitl [HO]; · iexact HO
      isplitl [Ht₁]; · iexact Ht₁
      isplitr; · iexact Hr₁
      isplitl [Ht₂]; · iexact Ht₂
      iexact Hr₂
    iintro ⟨Hc, HO⟩
    iapply HK
    isplitl [HO]; · iexact HO
    isplitl [Hsp]; · iexact Hsp
    isplitr; · iexact Hsr
    isplitl [Hrp]; · iexact Hrp
    isplitr; · iexact Hrr
    isplitl [Hrd]; · iexact Hrd
    isplitr; · iexact Ha₁
    isplitr; · iexact Ha₂
    isplitl [Hcp]; · iexact Hcp
    isplitl [Htk]; · iexact Htk
    isplitl [Hfl Hc Hl]
    · iapply (push hs' (flP_eq m c t.val)); isplitl [Hc Hl]
      · isplitl [Hc]; · iexact Hc
        iexact Hl
      iexact Hfl
    iframe
  · have h3 : ¬ t.val < 32 := fun h => hc ((cond6_iff t).mpr h)
    rw [dif_neg hc, show min t.val 32 = 32 by omega, show min (t.val + 1) 32 = 32 by omega]
    iintro ⟨-, H⟩ HK
    iapply HK; iexact H

/-- The sum of chunk `j` and the partner's. -/
def outv (j : ℕ) : Vec F S1024x1024 .f32 := k0_pay1 (wb m c j) (wb m (peer c) j)

/-- The partner's chunk is taken in and the sum written to the output window. -/
theorem seg7_run (Q : α → sProp 𝕄) (t : Fin grid0.N) (ht : 2 ≤ t.val) (a n kr ki : ℕ) (h₁ : t.val < n + 2) (h₂ : t.val < kr + 2) (h₃ : kr < t.val + 2)
    {M : Memref sig .tc .vmem S1024x1024 .f32} (hM : M.IsWhole) (X : Vec F S1024x1024 .f32) (K : Pg F α) :
    iprop(World m ∗ owns (c : Thread nD τ) M fullShare X ∗ Core m c (t.val + 1 - 3) a n (t.val - 2) kr ki)
      ⊢ iprop((owns (c : Thread nD τ) M fullShare (outv m c (t.val - 2)) ∗ Core m c (t.val + 1 - 3) a n (t.val + 1 - 2) kr ki -∗ wpc c K Q)
        -∗ wpc c (seg7 (grid0.coords t) M K) Q) := by
  have htl : t.val < 34 := t.isLt
  unfold seg7
  have hc := (cond7_iff t).mpr ht
  obtain ⟨j, hj⟩ : ∃ j, j = t.val - 2 := ⟨_, rfl⟩
  rw [dif_pos hc, show t.val + 1 - 3 = j by omega, show t.val + 1 - 2 = j + 1 by omega, ← hj]
  have e6 := off6_eq t ht
  have e7 := off7_eq t ht
  have e8 := off8_eq t ht
  rw [← hj] at e6 e7 e8
  unfold Core Rest
  iintro ⟨#HW, HM, HO, Hsp, #Hsr, Hrp, #Hrr, Hrd, #Ha₁, #Ha₂, Hcp, Htk, Hfl, Hsg, Hfr, Hrc, Hci, Hco, Hmn, Hb⟩ HK
  ihave #⟨%κ, HI⟩ := (world_rcv m c (sl j)) $$ HW
  ihave #Hlev := (world_lev m) $$ HW
  icases (pop (by omega) (rcvP_eq c j)) $$ Hrp with ⟨Hp, Hrp⟩
  icases (pop (by omega) (rcP_eq c j)) $$ Hrc with ⟨Hc, Hrc⟩
  iapply (step_rcv_wait m c Q j (by omega) n kr (by omega) (by omega)
    ((congrArg (fun M : Memref sig .tc .vmem S1024x1024 .bf16 => M.view.dmaCredit) (rv_of e7 _ _)).trans (N_rv _))
    (rcv_of e6 _)) $$ [HO Hc Hp]
  · isplitr; · iexact HI
    isplitr; · iexact Hlev
    isplitl [Hc]; · iexact Hc
    isplitl [HO]; · iexact HO
    iexact Hp
  iintro ⟨HO, ⟨Hp, #Hr⟩, Hv⟩
  icases (pop (by omega) (flP_eq m c j)) $$ Hfl with ⟨⟨Hc, Hl⟩, Hfl⟩
  iapply (step_ld_st c Q (sl j) fullShare.left (wb m c j) e8 (k0_off8_inb (grid0.coords t) hc)) $$ Hl
  iintro Hl
  iapply (step_ld_rv c Q (sl j) (wb m (peer c) j) e8 (k0_off8_inb (grid0.coords t) hc)) $$ Hv
  iintro Hv
  iapply (step_ld_win c Q hM X) $$ HM
  iintro HM
  iapply (step_st_win c Q hM X (k0_pay1 (wb m c j) (wb m (peer c) j))) $$ HM
  iintro HM
  iapply HK
  rw [show j + 1 + 3 = j + 3 + 1 from rfl]
  isplitl [HM]; · iexact HM
  isplitl [HO]; · iexact HO
  isplitl [Hsp]; · iexact Hsp
  isplitr; · iexact Hsr
  isplitl [Hp Hrp]
  · iapply (push (by omega) (rcvP_next c j)); isplitl [Hp]; · iexact Hp
    iexact Hrp
  isplitr
  · iapply (upPush (rcvR_next c j)); isplitr; · iexact Hr
    iexact Hrr
  isplitl [Hrd]; · iexact Hrd
  isplitr; · iexact Ha₁
  isplitr; · iexact Ha₂
  isplitl [Hcp]; · iexact Hcp
  isplitl [Htk]; · iexact Htk
  isplitl [Hfl Hc Hl]
  · iapply (unpop (by omega) (flP_eq m c j)); isplitl [Hc Hl]
    · isplitl [Hc]; · iexact Hc
      iexact Hl
    iexact Hfl
  isplitl [Hsg]; · iexact Hsg
  isplitl [Hfr]; · iexact Hfr
  isplitl [Hrc]; · iexact Hrc
  isplitl [Hci]; · iexact Hci
  isplitl [Hco]; · iexact Hco
  isplitl [Hmn Hv]
  · iapply (push (by omega) (mnP_eq c j)); isplitl [Hv]
    · iapply (any_of_rv c (sl j)); iexact Hv
    iexact Hmn
  iexact Hb
theorem seg7_skip (t : Fin grid0.N) (ht : ¬ 2 ≤ t.val) (M : Memref sig .tc .vmem S1024x1024 .f32) (K : Pg F α) : seg7 (grid0.coords t) M K = K := by
  unfold seg7
  rw [dif_neg (fun h => ht ((cond7_iff t).mp h))]

/-- What a device holds when the kernel starts. -/
def Start : sProp 𝕄 :=
  iprop(bigSep (Finset.Ico 0 3) (sndP c) ∗ bigSep (Finset.range 3) (sndR c) ∗ bigSep (Finset.Ico 0 3) (rcvP c) ∗ bigSep (Finset.range 3) (rcvR c)
    ∗ bigSep (Finset.Ico 0 3) (rdP c) ∗ crdPos c 3 ∗ bigSep (Finset.Ico 0 32) (tokP c) ∗ bigSep (Finset.Ico 0 3) (frP c)
    ∗ bigSep (Finset.Ico 0 32) (rcP c) ∗ bigSep (Finset.Ico 3 32) (ciP c) ∗ bigSep (Finset.Ico 3 32) (coP c) ∗ bigSep (Finset.Ico 0 3) (mnP c)
    ∗ atPos ER (barC c) 0 ∅ 0 ∗ dutyTok ER (barC (peer c)) 0 0 ∗ reached ER (barC (peer c)) 0 ∗ cred (tallyAt (barC c) 0 1))

/-- The three landing slots are freed before the barrier. -/
theorem release_all :
    iprop(World m ∗ bigSep (Finset.Ico 0 3) (rdP c) ∗ bigSep (Finset.Ico 0 3) (mnP c) ∗ bigSep (Finset.range 3) (rcvR c))
      ⊢ (|={Set.univ}=> (bigSep (Finset.Ico 3 6) (rdP c) ∗ AvailTo c 3) : sProp 𝕄) := by
  iintro ⟨#HW, Hrd, Hmn, #Hrr⟩
  icases (pop (by decide) (mnP_eq c 0)) $$ Hmn with ⟨Hv₀, Hmn⟩
  icases (pop (by decide) (mnP_eq c 1)) $$ Hmn with ⟨Hv₁, Hmn⟩
  icases (pop (by decide) (mnP_eq c 2)) $$ Hmn with ⟨Hv₂, -⟩
  ihave #Hr₀ := (upGet (j := 0) (by decide) (show rcvR (F := F) c 0 = rcvR c 0 from rfl)) $$ Hrr
  ihave #Hr₁ := (upGet (j := 1) (by decide) (show rcvR (F := F) c 1 = rcvR c 1 from rfl)) $$ Hrr
  ihave #Hr₂ := (upGet (j := 2) (by decide) (show rcvR (F := F) c 2 = rcvR c 2 from rfl)) $$ Hrr
  imod (release_one m c 0) $$ [Hrd Hv₀] with ⟨Hrd, #Ha⟩
  · isplitr; · iexact HW
    isplitl [Hrd]; · iexact Hrd
    isplitl [Hv₀]; · iexact Hv₀
    isplitr; · iexact Hr₀
    unfold AvailTo
    rw [Finset.range_zero, bigSep_empty]
    iempintro
  imod (release_one m c 1) $$ [Hrd Hv₁] with ⟨Hrd, #Ha₁⟩
  · isplitr; · iexact HW
    isplitl [Hrd]; · iexact Hrd
    isplitl [Hv₁]; · iexact Hv₁
    isplitr; · iexact Hr₁
    iexact Ha
  imod (release_one m c 2) $$ [Hrd Hv₂] with ⟨Hrd, #Ha₂⟩
  · isplitr; · iexact HW
    isplitl [Hrd]; · iexact Hrd
    isplitl [Hv₂]; · iexact Hv₂
    isplitr; · iexact Hr₂
    iexact Ha₁
  imodintro
  isplitl [Hrd]; · iexact Hrd
  iexact Ha₂

/-- The first part: the landing slots are freed and the partners meet. -/
theorem seg1_run (Q : α → sProp 𝕄) (t : Fin grid0.N) (ht : t.val = 0) (K : Pg F α) :
    iprop(World m ∗ owe c (O₀ c) ∗ Start c)
      ⊢ iprop((Core m c 0 0 0 0 3 3 -∗ wpc c K Q) -∗ wpc c (seg1 (grid0.coords t) c K) Q) := by
  unfold seg1
  have hc := (cond1_iff t).mpr ht
  rw [dif_pos hc]
  unfold Core Rest Start
  iintro ⟨#HW, HO, Hsp, #Hsr, Hrp, #Hrr, Hrd, Hcp, Htk, Hfr, Hrc, Hci, Hco, Hmn, Hb, Htb, #Hrb, Hcb⟩ HK
  ihave #⟨%κ, HI⟩ := (world_bar m c) $$ HW
  ihave #⟨%κ', HI'⟩ := (world_bar m (peer c)) $$ HW
  ihave #Hlev := (world_lev m) $$ HW
  iapply fupd_wp
  imod (release_all m c) $$ [Hrd Hmn] with ⟨Hrd, #Ha₁⟩
  · isplitr; · iexact HW
    isplitl [Hrd]; · iexact Hrd
    isplitl [Hmn]; · iexact Hmn
    iexact Hrr
  imodintro
  iapply (step_bar_signal m c Q (dev1_peer c _) _ 0 3) $$ [HO Htb]
  · isplitr; · iexact HI'
    isplitl [HO]; · iexact HO
    isplitl [Htb]; · iexact Htb
    isplitr; · iexact Ha₁
    iexact Hrb
  iintro HO
  iapply (step_bar_wait m c Q (fun _ => K)) $$ [HO Hcb Hb]
  · isplitr; · iexact HI
    isplitr; · iexact Hlev
    isplitl [Hcb]; · iexact Hcb
    isplitl [HO]; · iexact HO
    iexact Hb
  iintro ⟨HO, Hb, #Ha₂⟩
  iapply HK
  isplitl [HO]; · iexact HO
  isplitl [Hsp]; · iexact Hsp
  isplitr; · iexact Hsr
  isplitl [Hrp]; · iexact Hrp
  isplitr; · iexact Hrr
  isplitl [Hrd]; · iexact Hrd
  isplitr; · iexact Ha₁
  isplitr; · iexact Ha₂
  isplitl [Hcp]; · iexact Hcp
  isplitl [Htk]; · iexact Htk
  isplitr; · rw [Finset.Ico_self, bigSep_empty]; iempintro
  isplitr; · rw [Finset.Ico_self, bigSep_empty]; iempintro
  isplitl [Hfr]; · iexact Hfr
  isplitl [Hrc]; · iexact Hrc
  isplitl [Hci]; · iexact Hci
  isplitl [Hco]; · iexact Hco
  isplitr; · rw [show 3 - 3 = 0 from rfl, Finset.Ico_self, bigSep_empty]; iempintro
  iexact Hb
theorem seg1_skip (t : Fin grid0.N) (ht : t.val ≠ 0) (d : Dev nD) (K : Pg F α) : seg1 (grid0.coords t) d K = K := by
  unfold seg1
  rw [dif_neg (fun h => ht ((cond1_iff t).mp h))]

end Parts

end Cert.SwapIdeal

end
-- ==== Proof.Ideal.Close.lean ====
/-
The end of the kernel: the cells stand at zero and the slots make up whole buffers again.
-/
module

public import proofs.«01_k».proof.Proof.Ideal.Inv

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Three chunks in a row are the three slots -/

theorem shift (a : ℕ) (A : ℕ → sProp 𝕄) (h : ∀ k, A (k + 3) = A k) :
    bigSep (Finset.Ico (a + 1) (a + 1 + 3)) A = bigSep (Finset.Ico a (a + 3)) A := by
  rw [bigSep_Ico_succ_bot (show a < a + 3 by omega) A, show a + 1 + 3 = a + 3 + 1 from rfl, bigSep_Ico_succ_top (show a + 1 ≤ a + 3 by omega) A, h a]

theorem three (a : ℕ) (Φ : Fin 3 → sProp 𝕄) : bigSep (Finset.Ico a (a + 3)) (fun j => Φ (sl j)) = bigSep Finset.univ Φ := by
  have h₀ : ∀ n : ℕ, bigSep (Finset.Ico n (n + 3)) (fun j => Φ (sl j)) = bigSep (Finset.Ico 0 3) (fun j => Φ (sl j)) := fun n => by
    induction n with
    | zero => rfl
    | succ n ih => exact (shift n (fun j => Φ (sl j)) fun k => congrArg Φ (sl_add k)).trans ih
  rw [h₀ a]
  have h : Finset.Ico 0 3 = (Finset.univ : Finset (Fin 3)).map Fin.valEmbedding := by decide
  rw [h, bigSep_map]
  refine bigSep_congr fun s _ => congrArg Φ (Fin.ext ?_)
  show s.val % 3 = s.val
  exact Nat.mod_eq_of_lt s.isLt

theorem three_of (a : ℕ) (A : ℕ → sProp 𝕄) (Φ : Fin 3 → sProp 𝕄) (h : ∀ j ∈ Finset.Ico a (a + 3), A j = Φ (sl j)) :
    bigSep (Finset.Ico a (a + 3)) A = bigSep Finset.univ Φ := (bigSep_congr h).trans (three a Φ)

/-- A whole three-slot buffer out of its slots, and the slots out of the buffer. -/
theorem glue (ℓ : Loc nD τ sig) (K : Fin 3 → Finset (Idx ℓ)) (hK : ∀ s s', s ≠ s' → Disjoint (K s) (K s'))
    (hu : Finset.univ.biUnion K = Finset.univ) :
    bigSep Finset.univ (fun s : Fin 3 => iprop(∃ f : Buf (Elt F) ℓ, ℓ ↦[K s]{fullShare} f)) ⊢ (iprop(∃ f : Buf (Elt F) ℓ, ℓ ↦{fullShare} f) : sProp 𝕄) := by
  by_cases hne : Nonempty (Buf (Elt F) ℓ)
  · have h := bigSep_exists_pi Finset.univ (fun (s : Fin 3) (f : Buf (Elt F) ℓ) => (ℓ ↦[K s]{fullShare} f : sProp 𝕄))
    iintro H
    icases h $$ H with ⟨%fs, H⟩
    icases (pointsTo_biUnion_join Finset.univ K fs (fs 0) (fun s _ s' _ => hK s s')) $$ H with ⟨%g, -, H⟩
    rw [hu]
    iexists g; iexact H
  · iintro H
    have h : bigSep Finset.univ (fun s : Fin 3 => iprop(∃ f : Buf (Elt F) ℓ, ℓ ↦[K s]{fullShare} f)) ⊢ (iprop(∃ f : Buf (Elt F) ℓ, ℓ ↦[K 0]{fullShare} f) : sProp 𝕄) :=
      bigSep_elim (Finset.mem_univ (0 : Fin 3))
    icases h $$ H with ⟨%f, H⟩
    exact absurd ⟨f⟩ hne

theorem at_some (ℓ : Loc nD τ sig) (K : Finset (Idx ℓ)) (f : Buf (Elt F) ℓ) :
    (ℓ ↦[K]{fullShare} f : sProp 𝕄) ⊢ iprop(∃ f : Buf (Elt F) ℓ, ℓ ↦[K]{fullShare} f) := by
  iintro H; iexists f; iexact H

theorem cut (ℓ : Loc nD τ sig) (K : Fin 3 → Finset (Idx ℓ)) (hK : ∀ s s', s ≠ s' → Disjoint (K s) (K s'))
    (hu : Finset.univ.biUnion K = Finset.univ) :
    (iprop(∃ f : Buf (Elt F) ℓ, ℓ ↦{fullShare} f) : sProp 𝕄) ⊢ bigSep Finset.univ (fun s : Fin 3 => iprop(∃ f : Buf (Elt F) ℓ, ℓ ↦[K s]{fullShare} f)) := by
  have h : ∀ f : Buf (Elt F) ℓ, (ℓ ↦{fullShare} f : sProp 𝕄) ⊢ bigSep Finset.univ (fun s : Fin 3 => iprop(∃ f : Buf (Elt F) ℓ, ℓ ↦[K s]{fullShare} f)) := by
    intro f
    have e := pointsTo_biUnion (q := fullShare) (f := f) (Ix := ℕ) (Name := ℕ) (U := UU) (Lvl := ℕ) Finset.univ K (fun s _ s' _ => hK s s')
    rw [hu] at e
    rw [e]
    exact bigSep_mono fun s _ => at_some ℓ (K s) f
  iintro ⟨%f, H⟩
  iapply (h f); iexact H

/-! ## The end -/

/-- Each of the two scratch buffers, whole, at some contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device holds when the kernel is over: its cells at zero and its scratch buffers. -/
def Exit (c : Dev nD) : sProp 𝕄 :=
  iprop(semVal (barC c) 0 ∗ semVal (crdC c) 0 ∗ bigSep Finset.univ (fun s : Fin 3 => semVal (sndC c s) 0)
    ∗ bigSep Finset.univ (fun s : Fin 3 => semVal (rcvC c s) 0) ∗ Scr c)

theorem scr_of (c : Dev nD) (a b : ℕ) :
    iprop(bigSep (Finset.Ico a (a + 3)) (frP c) ∗ bigSep (Finset.Ico b (b + 3)) (mnP c)) ⊢ (Scr c : sProp 𝕄) := by
  have e₁ := three_of a (frP (F := F) c) (fun s => iprop(∃ f, stPts c s fullShare f)) (fun j _ => frP_eq c j)
  have e₂ := three_of b (mnP (F := F) c) (fun s => rvAny c s) (fun j _ => mnP_eq c j)
  have h₁ := glue (F := F) ((c : Thread nD τ).loc cc0_scratch0) cellsOf (fun s s' => cellsOf_disjoint) cellsOf_cover
  have h₂ := glue (F := F) ((c : Thread nD τ).loc cc0_scratch1) cellsOf (fun s s' => cellsOf_disjoint) cellsOf_cover
  unfold Scr
  rw [e₁, e₂]
  iintro ⟨Hf, Hm⟩
  isplitl [Hf]
  · iapply h₁; iexact Hf
  · iapply h₂; iexact Hm
theorem of_scr (c : Dev nD) : (Scr c : sProp 𝕄) ⊢ iprop(bigSep (Finset.Ico 0 3) (frP c) ∗ bigSep (Finset.Ico 0 3) (mnP c)) := by
  have e₁ := three_of 0 (frP (F := F) c) (fun s => iprop(∃ f, stPts c s fullShare f)) (fun j _ => frP_eq c j)
  have e₂ := three_of 0 (mnP (F := F) c) (fun s => rvAny c s) (fun j _ => mnP_eq c j)
  have h₁ := cut (F := F) ((c : Thread nD τ).loc cc0_scratch0) cellsOf (fun s s' => cellsOf_disjoint) cellsOf_cover
  have h₂ := cut (F := F) ((c : Thread nD τ).loc cc0_scratch1) cellsOf (fun s s' => cellsOf_disjoint) cellsOf_cover
  unfold Scr
  rw [show Finset.Ico 0 3 = Finset.Ico 0 (0 + 3) from rfl, e₁, e₂]
  iintro ⟨Hf, Hm⟩
  isplitl [Hf]
  · iapply h₁; iexact Hf
  · iapply h₂; iexact Hm

section Close
variable (c : Dev nD)

theorem snd_close (j : ℕ) (hj : 32 ≤ j) : iprop(World m ∗ sndP c j) ⊢ (|={Set.univ}=> semVal (sndC c (sl j)) 0 : sProp 𝕄) := by
  rw [sndP_eq]
  iintro ⟨#HW, Hp⟩
  ihave #⟨%κ, HI⟩ := (world_snd m c (sl j)) $$ HW
  iapply (Rounds.cell_close ER (Rd m) (κ := κ) (Set.mem_univ κ) (Rd_not_unitless m _) (fun r hr => duties_snd_later m c j hj r hr))
  isplitr; · iexact HI
  iexact Hp
theorem rcv_close (j : ℕ) (hj : 32 ≤ j) : iprop(World m ∗ rcvP c j) ⊢ (|={Set.univ}=> semVal (rcvC c (sl j)) 0 : sProp 𝕄) := by
  rw [rcvP_eq]
  iintro ⟨#HW, Hp⟩
  ihave #⟨%κ, HI⟩ := (world_rcv m c (sl j)) $$ HW
  iapply (Rounds.cell_close ER (Rd m) (κ := κ) (Set.mem_univ κ) (Rd_not_unitless m _) (fun r hr => duties_rcv_later m c j hj r hr))
  isplitr; · iexact HI
  iexact Hp
theorem bar_close : iprop(World m ∗ atPos ER (barC c) 1 ∅ 0) ⊢ (|={Set.univ}=> semVal (barC c) 0 : sProp 𝕄) := by
  iintro ⟨#HW, Hp⟩
  ihave #⟨%κ, HI⟩ := (world_bar m c) $$ HW
  iapply (Rounds.cell_close ER (Rd m) (κ := κ) (Set.mem_univ κ) (Rd_not_unitless m _) (fun r hr => duties_bar_later m c r hr))
  isplitr; · iexact HI
  iexact Hp
theorem crd_close : iprop(World m ∗ crdPos c 32) ⊢ (|={Set.univ}=> semVal (crdC c) 0 : sProp 𝕄) := by
  unfold crdPos
  iintro ⟨#HW, ⟨%T, %hT, Hp, -⟩⟩
  ihave #⟨%κ, HI⟩ := (world_crd m c) $$ HW
  have hT' : (Rd m).duties (crdC c) 0 ⊆ T := by
    rw [duties_crd, Finset.eq_of_subset_of_card_le hT.1 hT.2]
  imod (Rounds.fupd_skip ER (Rd m) (κ := κ) hT' (expect_crd m c).symm (Set.mem_univ κ)) $$ [Hp] with ⟨Hp, -⟩
  · isplitr; · iexact HI
    iexact Hp
  iapply (Rounds.cell_close ER (Rd m) (κ := κ) (Set.mem_univ κ) (Rd_not_unitless m _) (fun r hr => duties_crd_later m c r hr))
  isplitr; · iexact HI
  iexact Hp

/-- One step for each of three chunks from `World`, taken together. -/
theorem close_three (A : ℕ → sProp 𝕄) (Φ : Fin 3 → sProp 𝕄) (h : ∀ j, 32 ≤ j → iprop(World m ∗ A j) ⊢ |={Set.univ}=> Φ (sl j)) :
    iprop(World m ∗ bigSep (Finset.Ico 32 35) A) ⊢ |={Set.univ}=> bigSep Finset.univ Φ := by
  have h₁ : iprop(World m ∗ bigSep (Finset.Ico 32 35) A) ⊢ bigSep (Finset.Ico 32 35) (fun j => iprop(|={Set.univ}=> Φ (sl j))) := by
    iintro ⟨#HW, H⟩
    have h₂ : iprop(bigSep (Finset.Ico 32 35) (fun _ => World m) ∗ bigSep (Finset.Ico 32 35) A) ⊢ bigSep (Finset.Ico 32 35) (fun j => iprop(|={Set.univ}=> Φ (sl j))) := by
      rw [← bigSep_sep']
      exact bigSep_mono fun j hj => h j (Finset.mem_Ico.mp hj).1
    iapply h₂
    isplitr
    · iapply (bigSep_of_persistent (Finset.Ico 32 35) (World m)); iexact HW
    iexact H
  have h₃ := bigSep_fupd (E := (Set.univ : Set ℕ)) (Fr := frame) (Finset.Ico 32 35) (fun j => Φ (sl j))
  rw [three 32 Φ] at h₃
  exact h₁.trans h₃

theorem close_all : iprop(World m ∗ Rest m c 32 32 32 32 32 32) ⊢ (|={Set.univ}=> Exit c : sProp 𝕄) := by
  unfold Rest
  iintro ⟨#HW, Hsp, -, Hrp, -, -, -, -, Hcp, -, -, -, Hfr, -, -, -, Hmn, Hb⟩
  imod (close_three m (sndP c) (fun s => semVal (sndC c s) 0) (fun j hj => snd_close m c j hj)) $$ [Hsp] with Hs
  · isplitr; · iexact HW
    iexact Hsp
  imod (close_three m (rcvP c) (fun s => semVal (rcvC c s) 0) (fun j hj => rcv_close m c j hj)) $$ [Hrp] with Hr
  · isplitr; · iexact HW
    iexact Hrp
  imod (bar_close m c) $$ [Hb] with Hb
  · isplitr; · iexact HW
    iexact Hb
  imod (crd_close m c) $$ [Hcp] with Hc
  · isplitr; · iexact HW
    iexact Hcp
  imodintro
  unfold Exit
  isplitl [Hb]; · iexact Hb
  isplitl [Hc]; · iexact Hc
  isplitl [Hs]; · iexact Hs
  isplitl [Hr]; · iexact Hr
  iapply (scr_of c 32 29)
  isplitl [Hfr]; · iexact Hfr
  iexact Hmn

end Close

end Cert.SwapIdeal

end
-- ==== Proof.Ideal.Step.lean ====
/-
One step of the kernel, from what a device holds before it to what it holds after it.
-/
module

public import proofs.«01_k».proof.Proof.Ideal.Close

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Step
variable {α : Type} (c : Dev nD)

/-- What a device holds before step `k`. -/
def CoreAt (k : ℕ) : sProp 𝕄 := Core m c (k - 3) (min k 32) (min k 32) (k - 2) (max 3 (min k 32)) (max 3 (min k 32))
/-- What it holds after the parts of step `k` that come before the copy. -/
def CoreMid (k : ℕ) : sProp 𝕄 :=
  Core m c (k + 1 - 3) (min (k + 1) 32) (min k 32) (k - 2) (max 3 (min (k + 1) 32)) (max 3 (min (k + 1) 32))
/-- What it holds after step `k`, the last one having waited for the last copy. -/
def CoreEnd (k : ℕ) : sProp 𝕄 := if k = 33 then Core m c 32 32 32 32 32 32 else CoreAt m c (k + 1)

theorem coreEnd_last {k : ℕ} (h : k = 33) : CoreEnd m c k = Core m c 32 32 32 32 32 32 := if_pos h
theorem coreEnd_next {k : ℕ} (h : k ≠ 33) : CoreEnd m c k = CoreAt m c (k + 1) := if_neg h

theorem ret_run (Q : α → sProp 𝕄) (a : α) : (|={Set.univ}=> Q a) ⊢ wpc c (.ret a : Pg F α) Q := by
  unfold wpc
  rw [wp_ret]

theorem front_run (Q : α → sProp 𝕄) (t : Fin grid0.N) {M : Memref sig .tc .vmem S1024x1024 .f32} (hM : M.IsWhole) (K : Pg F α) :
    iprop(World m ∗ CoreAt m c t.val ∗ owns (c : Thread nD τ) M fullShare (xb m c t.val))
      ⊢ iprop((CoreMid m c t.val ∗ owns (c : Thread nD τ) M fullShare (xb m c t.val) -∗ wpc c K Q)
        -∗ wpc c (seg2 (grid0.coords t) (seg3 (grid0.coords t) M (seg4 (grid0.coords t) c (seg5 (grid0.coords t) K)))) Q) := by
  have ht : t.val < 34 := t.isLt
  unfold CoreAt CoreMid
  iintro ⟨#HW, HC, HM⟩ HK
  iapply (seg2_run m c Q t (min t.val 32) (min t.val 32) (t.val - 2) (max 3 (min t.val 32)) (max 3 (min t.val 32)) (by omega) (by omega)) $$ [HC]
  · isplitr; · iexact HW
    iexact HC
  iintro HC
  iapply (seg3_run m c Q t (t.val + 1 - 3) (min t.val 32) (t.val - 2) (max 3 (min t.val 32)) (max 3 (min t.val 32)) (by omega) (by omega) hM) $$ [HC HM]
  · isplitl [HM]; · iexact HM
    iexact HC
  iintro ⟨HM, HC⟩
  iapply (seg4_run m c Q t (t.val + 1 - 3) (min (t.val + 1) 32) (min t.val 32) (t.val - 2) (max 3 (min t.val 32)) (by omega)) $$ [HC]
  · isplitr; · iexact HW
    iexact HC
  iintro HC
  iapply (seg5_run m c Q t (t.val + 1 - 3) (min (t.val + 1) 32) (min t.val 32) (t.val - 2) (by omega)) $$ [HC]
  · isplitr; · iexact HW
    iexact HC
  iintro HC
  iapply HK
  isplitl [HC]; · iexact HC
  iexact HM

/-- What the output's window holds after the step, `X` before it. -/
def after1 (k : ℕ) (X : Vec F S1024x1024 .f32) : Vec F S1024x1024 .f32 := if 2 ≤ k then outv m c (k - 2) else X

theorem seg7_any (Q : α → sProp 𝕄) (t : Fin grid0.N) {M : Memref sig .tc .vmem S1024x1024 .f32} (hM : M.IsWhole) (X : Vec F S1024x1024 .f32) (K : Pg F α) :
    iprop(World m ∗ owns (c : Thread nD τ) M fullShare X
        ∗ Core m c (t.val + 1 - 3) (min (t.val + 1) 32) (min (t.val + 1) 32) (t.val - 2) (max 3 (min (t.val + 1) 32)) (max 3 (min (t.val + 1) 32)))
      ⊢ iprop((owns (c : Thread nD τ) M fullShare (after1 m c t.val X) ∗ CoreAt m c (t.val + 1) -∗ wpc c K Q)
        -∗ wpc c (seg7 (grid0.coords t) M K) Q) := by
  have ht : t.val < 34 := t.isLt
  unfold CoreAt after1
  by_cases h : 2 ≤ t.val
  · rw [if_pos h]
    iintro ⟨#HW, HM, HC⟩ HK
    iapply (seg7_run m c Q t h (min (t.val + 1) 32) (min (t.val + 1) 32) (max 3 (min (t.val + 1) 32)) (max 3 (min (t.val + 1) 32)) (by omega) (by omega) (by omega) hM X) $$ [HC HM]
    · isplitr; · iexact HW
      isplitl [HM]; · iexact HM
      iexact HC
    iexact HK
  · rw [if_neg h, seg7_skip t h, show t.val + 1 - 2 = t.val - 2 by omega]
    iintro ⟨#HW, HM, HC⟩ HK
    iapply HK
    isplitl [HM]; · iexact HM
    iexact HC

theorem seg8_any (Q : α → sProp 𝕄) (t : Fin grid0.N) (K : Pg F α) :
    iprop(World m ∗ CoreAt m c (t.val + 1))
      ⊢ iprop((CoreEnd m c t.val -∗ wpc c K Q) -∗ wpc c (seg8 (BitVec.ofNat 32 (grid0.coords t 0).val) K) Q) := by
  by_cases h : t.val = 33
  · rw [coreEnd_last m c h]
    unfold CoreAt
    rw [show Core m c (t.val + 1 - 3) (min (t.val + 1) 32) (min (t.val + 1) 32) (t.val + 1 - 2) (max 3 (min (t.val + 1) 32)) (max 3 (min (t.val + 1) 32))
      = Core m c 31 32 32 32 32 32 by rw [h]; rfl]
    exact seg8_run m c Q t h 32 32 32 K
  · rw [coreEnd_next m c h, seg8_skip t h]
    iintro ⟨-, HC⟩ HK
    iapply HK; iexact HC

theorem back_run (Q : α → sProp 𝕄) (t : Fin grid0.N) {M : Memref sig .tc .vmem S1024x1024 .f32} (hM : M.IsWhole) (X : Vec F S1024x1024 .f32) (K : Pg F α) :
    iprop(World m ∗ CoreMid m c t.val ∗ owns (c : Thread nD τ) M fullShare X)
      ⊢ iprop((CoreEnd m c t.val ∗ owns (c : Thread nD τ) M fullShare (after1 m c t.val X) -∗ wpc c K Q)
        -∗ wpc c (seg6 (grid0.coords t) c (seg7 (grid0.coords t) M (seg8 (BitVec.ofNat 32 (grid0.coords t 0).val) K))) Q) := by
  have ht : t.val < 34 := t.isLt
  unfold CoreMid
  iintro ⟨#HW, HC, HM⟩ HK
  iapply (seg6_run m c Q t (t.val + 1 - 3) (t.val - 2) (max 3 (min (t.val + 1) 32)) (max 3 (min (t.val + 1) 32)) (by omega)) $$ [HC]
  · isplitr; · iexact HW
    iexact HC
  iintro HC
  iapply (seg7_any m c Q t hM X) $$ [HC HM]
  · isplitr; · iexact HW
    isplitl [HM]; · iexact HM
    iexact HC
  iintro ⟨HM, HC⟩
  iapply (seg8_any m c Q t) $$ [HC]
  · isplitr; · iexact HW
    iexact HC
  iintro HC
  iapply HK
  isplitl [HC]; · iexact HC
  iexact HM

/-! ## Before and after each step, with what is owed apart -/

/-- What a device holds before step `k`, beside its windows and what it owes. -/
def PhiAt (k : ℕ) : sProp 𝕄 :=
  if k = 0 then iprop(World m ∗ Start c)
  else if k = 34 then Exit c
  else iprop(World m ∗ Rest m c (k - 3) (min k 32) (min k 32) (k - 2) (max 3 (min k 32)) (max 3 (min k 32)))

/-- What it owes then. -/
def owedAt (k : ℕ) : CellTallies nD τ sig ℕ := if k = 0 then O₀ c else Ow c (min k 32) (max 3 (min k 32))

theorem phi_start : PhiAt m c 0 = iprop(World m ∗ Start c) := if_pos rfl
theorem phi_last : PhiAt m c 34 = Exit c := by unfold PhiAt; rw [if_neg (by decide), if_pos rfl]
theorem phi_mid {k : ℕ} (h₀ : k ≠ 0) (h₁ : k ≠ 34) : PhiAt m c k
    = iprop(World m ∗ Rest m c (k - 3) (min k 32) (min k 32) (k - 2) (max 3 (min k 32)) (max 3 (min k 32))) := by
  unfold PhiAt; rw [if_neg h₀, if_neg h₁]
theorem owed_start : owedAt c 0 = O₀ c := if_pos rfl
theorem owed_mid {k : ℕ} (h : k ≠ 0) : owedAt c k = Ow c (min k 32) (max 3 (min k 32)) := if_neg h
theorem owed_last : owedAt c 34 = 0 := (owed_mid c (by decide)).trans (Ow_end c)

/-- The first part of a step and what leads to it. -/
theorem enter_run (Q : α → sProp 𝕄) (t : Fin grid0.N) (K : Pg F α) :
    iprop(PhiAt m c t.val ∗ owe c (owedAt c t.val))
      ⊢ iprop((World m ∗ CoreAt m c t.val -∗ wpc c K Q) -∗ wpc c (seg1 (grid0.coords t) c K) Q) := by
  have ht : t.val < 34 := t.isLt
  by_cases h : t.val = 0
  · rw [show PhiAt m c t.val = iprop(World m ∗ Start c) by rw [h]; exact phi_start m c,
      show owedAt c t.val = O₀ c by rw [h]; exact owed_start c,
      show CoreAt m c t.val = Core m c 0 0 0 0 3 3 by rw [h]; rfl]
    iintro ⟨⟨#HW, HS⟩, HO⟩ HK
    iapply (seg1_run m c Q t h) $$ [HS HO]
    · isplitr; · iexact HW
      isplitl [HO]; · iexact HO
      iexact HS
    iintro HC
    iapply HK
    isplitr; · iexact HW
    iexact HC
  · rw [phi_mid m c h (by omega), owed_mid c h, seg1_skip t h]
    unfold CoreAt Core
    iintro ⟨⟨#HW, HR⟩, HO⟩ HK
    iapply HK
    isplitr; · iexact HW
    isplitl [HO]; · iexact HO
    iexact HR

theorem leave (k : ℕ) (hk : k < 34) :
    iprop(World m ∗ CoreEnd m c k) ⊢ (|={Set.univ}=> (PhiAt m c (k + 1) ∗ owe c (owedAt c (k + 1))) : sProp 𝕄) := by
  by_cases h : k = 33
  · subst h
    rw [coreEnd_last m c rfl, show PhiAt m c (33 + 1) = Exit c from phi_last m c, show owedAt c (33 + 1) = Ow c 32 32 from rfl]
    unfold Core
    iintro ⟨#HW, HO, HR⟩
    imod (close_all m c) $$ [HR] with HE
    · isplitr; · iexact HW
      iexact HR
    imodintro
    isplitl [HE]; · iexact HE
    iexact HO
  · rw [coreEnd_next m c h, phi_mid m c (by omega) (by omega), owed_mid c (by omega)]
    unfold CoreAt Core
    iintro ⟨#HW, HO, HR⟩
    imodintro
    isplitl [HR]
    · isplitr; · iexact HW
      iexact HR
    iexact HO

end Step

/-- One step of the kernel. -/
theorem step_run (c : Dev nD) (t : Fin grid0.N) {M1 M2 : Memref sig .tc .vmem S1024x1024 .f32} (h1 : M1.IsWhole) (h2 : M2.IsWhole) (X : Vec F S1024x1024 .f32)
    (Q : PUnit → sProp 𝕄) :
    iprop(PhiAt m c t.val ∗ owe c (owedAt c t.val) ∗ owns (c : Thread nD τ) M1 fullShare (xb m c t.val) ∗ owns (c : Thread nD τ) M2 fullShare X)
      ⊢ iprop((PhiAt m c (t.val + 1) ∗ owe c (owedAt c (t.val + 1)) ∗ owns (c : Thread nD τ) M1 fullShare (xb m c t.val)
            ∗ owns (c : Thread nD τ) M2 fullShare (after1 m c t.val X) -∗ Q ⟨⟩)
        -∗ wpc c (cc0_body_skel (grid0.coords t) M1 h1 M2 h2 A3 A3_whole A4 A4_whole cc0_scratch2 cc0_scratch3 cc0_scratch4) Q) := by
  rw [wp_body]
  iintro ⟨HP, HO, HM1, HM2⟩ HK
  iapply (enter_run m c _ t) $$ [HP HO]
  · isplitl [HP]; · iexact HP
    iexact HO
  iintro ⟨#HW, HC⟩
  iapply (front_run m c _ t h1) $$ [HC HM1]
  · isplitr; · iexact HW
    isplitl [HC]; · iexact HC
    iexact HM1
  iintro ⟨HC, HM1⟩
  iapply (ret_run c _ _)
  imodintro
  iapply (back_run m c _ t h2 X) $$ [HC HM2]
  · isplitr; · iexact HW
    isplitl [HC]; · iexact HC
    iexact HM2
  iintro ⟨HC, HM2⟩
  iapply (ret_run c _ _)
  imod (leave m c t.val t.isLt) $$ [HC] with ⟨HP, HO⟩
  · isplitr; · iexact HW
    iexact HC
  imodintro
  iapply HK
  isplitl [HP]; · iexact HP
  isplitl [HO]; · iexact HO
  isplitl [HM1]; · iexact HM1
  iexact HM2

end Cert.SwapIdeal

end
-- ==== Proof.Ideal.Data.lean ====
/-
The pipeline's data and its obligation for each step.
-/
module

public import proofs.«01_k».proof.Proof.Ideal.Step

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The machine's state at launch. -/
abbrev s₀ : MemSt nD τ sig (Elt F) := ⟨m, fun _ => 0, ρ⟩

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => iblk m c 0 t
    | ⟨1, _⟩ => outv m c (t.val - 2)
  Φ t := PhiAt m c t.val
  q _ := fullShare
  owed t := owedAt c t.val

section Body
variable (c : Dev nD)

theorem iblk_at {t t' : Fin cfg0.N} (h : t = t') : (iblk m c 0 t : Vec F S1024x1024 .f32) = iblk m c 0 t' := by subst h; rfl

theorem xb_eq (t : Fin cfg0.N) : xb m c t.val = iblk m c 0 t := by
  have ht : t.val < 34 := Nat.lt_of_lt_of_eq t.isLt N_0
  unfold xb
  exact iblk_at m c (Fin.ext (a := ⟨t.val % 34, _⟩) (Nat.mod_eq_of_lt ht))

theorem before0 (t : Fin cfg0.N) (d) : (dats m ρ 0 c).before 0 t d = xb m c t.val := by
  rw [xb_eq]
  exact ((dats m ρ 0 c).before_in_eq_fetched 0 rfl (fun _ => rfl) (fun _ _ _ => rfl) (fun _ => rfl) t d).trans rfl

theorem idle1 : ∀ t : Fin grid0.N, t.val < 2 → idle0 1 (grid0.coords t) = true := by decide +kernel
theorem live1 : ∀ t : Fin grid0.N, 2 ≤ t.val → idle0 1 (grid0.coords t) = false := by decide +kernel
theorem flush1 : ∀ t : Fin grid0.N, t.val < 2 → win0_1.flush t = false := by decide +kernel

theorem in_at (t : Fin cfg0.N) (d) (M : Memref sig .tc .vmem S1024x1024 .f32) :
    owns (c : Thread nD τ) M fullShare ((dats m ρ 0 c).before 0 t d) ⊢ (owns (c : Thread nD τ) M fullShare (xb m c t.val) : sProp 𝕄) :=
  Entails.of_eq (by rw [before0])
theorem in_back (t : Fin cfg0.N) (M : Memref sig .tc .vmem S1024x1024 .f32) :
    owns (c : Thread nD τ) M fullShare (xb m c t.val) ⊢ (owns (c : Thread nD τ) M fullShare (iblk m c 0 t) : sProp 𝕄) :=
  Entails.of_eq (by rw [xb_eq])

theorem owe_of (t : Fin cfg0.N) : (dats m ρ 0 c).owesAt 0 t.castSucc ⊢ (owe c (owedAt c t.val) : sProp 𝕄) := by
  unfold owe
  iintro ⟨%W, -, H⟩
  iexists W; iexact H
theorem owe_back (t : Fin cfg0.N) : owe c (owedAt c (t.val + 1)) ⊢ ((dats m ρ 0 c).owesAt 0 t.succ : sProp 𝕄) := by
  unfold owe
  iintro ⟨%W, H⟩
  iexists W
  isplitr; · ipureintro; exact fun _ _ => .inl trivial
  iexact H

/-- The output's window after a step holds what it did or the sum. -/
theorem out_back (t : Fin grid0.N) (M : Memref sig .tc .vmem S1024x1024 .f32) (B : Vec F S1024x1024 .f32 → Vec F S1024x1024 .f32) (e : Vec F S1024x1024 .f32) :
    owns (c : Thread nD τ) M fullShare (after1 m c t.val (B e)) ⊢ (match idle0 1 (grid0.coords t) with
      | true => match win0_1.flush t with
        | false => iprop(∃ d, owns (c : Thread nD τ) M fullShare (B d))
        | true => owns (c : Thread nD τ) M fullShare (outv m c (t.val - 2))
      | false => owns (c : Thread nD τ) M fullShare (outv m c (t.val - 2)) : sProp 𝕄) := by
  unfold after1
  by_cases h : 2 ≤ t.val
  · rw [if_pos h, live1 t h]
  · rw [if_neg h, idle1 t (by omega), flush1 t (by omega)]
    iintro H
    iexists e; iexact H

set_option maxRecDepth 4000 in
/-- The pipeline's obligation for the body at each step. -/
theorem body_obligation : BodyObligation (dats (F := F) m ρ 0 c) (defs₀ (F := F)) 𝒱₀ 0 Set.univ := fun t => by
  rw [bigSep_W0, bigSep_W0]
  show iprop(PhiAt m c t.val ∗ (dats m ρ 0 c).owesAt 0 t.castSucc
      ∗ (∃ d, owns (c : Thread nD τ) (stage0_0 (cfg0.slots t 0)) fullShare ((dats m ρ 0 c).before 0 t d))
      ∗ (∃ d, owns (c : Thread nD τ) (stage0_1 (cfg0.slots t 1)) fullShare ((dats m ρ 0 c).before 1 t d)))
    ⊢ wpc c (cc0_body (grid0.coords t) (win0_0.stage (cfg0.slots t 0)) (hstage0_0 ((cfg0.slots t 0).cast nbuf0_0)) (win0_1.stage (cfg0.slots t 1)) (hstage0_1 ((cfg0.slots t 1).cast nbuf0_1)) (Memref.whole cc0_scratch0) (Memref.isWhole_whole _) (Memref.whole cc0_scratch1) (Memref.isWhole_whole _) cc0_scratch2 cc0_scratch3 cc0_scratch4)
      fun _ => iprop(PhiAt m c (t.val + 1) ∗ (dats m ρ 0 c).owesAt 0 t.succ
        ∗ owns (c : Thread nD τ) (stage0_0 (cfg0.slots t 0)) fullShare (iblk m c 0 t)
        ∗ (match idle0 1 (grid0.coords t) with
              | true =>
                match win0_1.flush t with
                | false => iprop(∃ d, owns (c : Thread nD τ) (stage0_1 (cfg0.slots t 1)) fullShare ((dats m ρ 0 c).before 1 t d))
                | true => owns (c : Thread nD τ) (stage0_1 (cfg0.slots t 1)) fullShare (outv m c (t.val - 2))
              | false => owns (c : Thread nD τ) (stage0_1 (cfg0.slots t 1)) fullShare (outv m c (t.val - 2))))
  rw [cc0_body_eq_skeleton]
  iintro ⟨HP, HO, ⟨%d, HM1⟩, ⟨%e, HM2⟩⟩
  iapply (step_run m c t (M1 := stage0_0 (cfg0.slots t 0)) (M2 := stage0_1 (cfg0.slots t 1)) (hstage0_0 ((cfg0.slots t 0).cast nbuf0_0))
    (hstage0_1 ((cfg0.slots t 1).cast nbuf0_1)) ((dats m ρ 0 c).before 1 t e)) $$ [HP HO HM1 HM2]
  · isplitl [HP]; · iexact HP
    isplitl [HO]; · iapply (owe_of m ρ c t); iexact HO
    isplitl [HM1]; · iapply (in_at m ρ c t d); iexact HM1
    iexact HM2
  iintro ⟨HP, HO, HM1, HM2⟩
  isplitl [HP]; · iexact HP
  isplitl [HO]; · iapply (owe_back m ρ c t); iexact HO
  isplitl [HM1]; · iapply (in_back m c t); iexact HM1
  iapply (out_back m c t (stage0_1 (cfg0.slots t 1)) ((dats m ρ 0 c).before 1 t) e); iexact HM2

end Body

end Cert.SwapIdeal

end
-- ==== Proof.Ideal.Fund.lean ====
/-
What the launch mints and how it is dealt to the devices.
-/
module

public import proofs.«01_k».proof.Proof.Ideal.Data

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the tokens that the launch mints -/

/-- Which of a device's cells a cell is. -/
def clOf (g : GSem nD τ sig) : Cl :=
  match kd g.2 with
  | .bar => .inl 0
  | .crd => .inl 1
  | .snd s => .inr (false, s)
  | .rcv s => .inr (true, s)
  | .none => .inl 0

theorem clOf_kcell (x : Dev nD × Cl) : clOf (kcell x) = x.2 := by
  obtain ⟨c, k⟩ := x
  unfold clOf kcell
  rcases k with k | ⟨b, s⟩
  · match k with
    | 0 => rw [show kd (csem (.inl 0)) = .bar from kd_bar]
    | 1 => rw [show kd (csem (.inl 1)) = .crd from kd_crd]
  · cases b
    · rw [show kd (csem (.inr (false, s))) = .snd s from kd_snd s]
    · rw [show kd (csem (.inr (true, s))) = .rcv s from kd_rcv s]

theorem kcell_injective : Function.Injective (kcell : Dev nD × Cl → GSem nD τ sig) :=
  Function.LeftInverse.injective (g := fun g => (g.1.1, clOf g)) fun x => Prod.ext rfl (clOf_kcell x)

def ringCells : Finset (GSem nD τ sig) := Finset.univ.map ⟨kcell, kcell_injective⟩

/-- A device's tokens: its barrier's, its credits', and each chunk's sending and landing. -/
abbrev Tk : Type := Unit ⊕ Fin 29 ⊕ (Bool × Fin 32)
def tokOf (x : Dev nD × Tk) : GSem nD τ sig × ℕ × ℕ :=
  match x.2 with
  | .inl _ => (barC x.1, 0, 0)
  | .inr (.inl i) => (crdC x.1, 0, i.val + 3)
  | .inr (.inr (false, j)) => (sndC x.1 (sl j.val), j.val / 3, 0)
  | .inr (.inr (true, j)) => (rcvC x.1 (sl j.val), j.val / 3, 0)

def tkOf (y : GSem nD τ sig × ℕ × ℕ) : Tk :=
  match kd y.1.2 with
  | .bar => .inl ()
  | .crd => .inr (.inl ⟨(y.2.2 - 3) % 29, Nat.mod_lt _ (by decide)⟩)
  | .snd s => .inr (.inr (false, ⟨(3 * y.2.1 + s.val) % 32, Nat.mod_lt _ (by decide)⟩))
  | .rcv s => .inr (.inr (true, ⟨(3 * y.2.1 + s.val) % 32, Nat.mod_lt _ (by decide)⟩))
  | .none => .inl ()

theorem tkOf_tokOf (x : Dev nD × Tk) : ((tokOf x).1.1.1, tkOf (tokOf x)) = x := by
  obtain ⟨c, k⟩ := x
  rcases k with _ | i | ⟨b, j⟩
  · refine Prod.ext rfl ?_
    unfold tkOf
    rw [show kd (tokOf (c, .inl ())).1.2 = .bar from kd_bar]
  · refine Prod.ext rfl ?_
    have hi := i.isLt
    unfold tkOf
    rw [show kd (tokOf (c, .inr (.inl i))).1.2 = .crd from kd_crd]
    exact congrArg (fun i => (Sum.inr (Sum.inl i) : Tk)) (Fin.ext (by show (i.val + 3 - 3) % 29 = i.val; omega))
  · have hj := j.isLt
    cases b
    · refine Prod.ext rfl ?_
      unfold tkOf
      rw [show kd (tokOf (c, .inr (.inr (false, j)))).1.2 = .snd (sl j.val) from kd_snd _]
      exact congrArg (fun j => (Sum.inr (Sum.inr (false, j)) : Tk)) (Fin.ext (by show (3 * (j.val / 3) + j.val % 3) % 32 = j.val; omega))
    · refine Prod.ext rfl ?_
      unfold tkOf
      rw [show kd (tokOf (c, .inr (.inr (true, j)))).1.2 = .rcv (sl j.val) from kd_rcv _]
      exact congrArg (fun j => (Sum.inr (Sum.inr (true, j)) : Tk)) (Fin.ext (by show (3 * (j.val / 3) + j.val % 3) % 32 = j.val; omega))

theorem tokOf_injective : Function.Injective tokOf :=
  Function.LeftInverse.injective (g := fun y : GSem nD τ sig × ℕ × ℕ => ((y.1.1.1 : Dev nD), tkOf y)) tkOf_tokOf

def ringToks : Finset (GSem nD τ sig × ℕ × ℕ) := Finset.univ.map ⟨tokOf, tokOf_injective⟩

def u₀ : UU :=
  (initOf (Pipeline.cells cfgs cellOf_inj) (Pipeline.launchToks cfgs cellOf_inj), (initOf ringCells ringToks, Release.initSlots Finset.univ 11))

/-! ## What each device is dealt -/

def tBar (c : Dev nD) : sProp 𝕄 := dutyTok ER (barC c) 0 0
def tCrd (c : Dev nD) : sProp 𝕄 := bigSep (Finset.Ico 3 32) fun i => dutyTok ER (crdC c) 0 i
def tSnd (c : Dev nD) : sProp 𝕄 := bigSep (Finset.Ico 0 32) fun j => dutyTok ER (sndC c (sl j)) (j / 3) 0
def tRcv (c : Dev nD) : sProp 𝕄 := bigSep (Finset.Ico 0 32) fun j => dutyTok ER (rcvC c (sl j)) (j / 3) 0
def tWr (c : Dev nD) : sProp 𝕄 := bigSep (Finset.Ico 0 32) fun j => Release.writeTok ES (c, sl j) (j / 3 + 1)
def dSt (c : Dev nD) : sProp 𝕄 := bigSep Finset.univ fun k : Cl => roundState ER (Rd m) (kcell (c, k)) 0
def dInv (c : Dev nD) : sProp 𝕄 := bigSep Finset.univ fun k : Cl => iprop(∃ κ, cellInv ER (Rd m) κ (kcell (c, k)))
def dRch (c : Dev nD) : sProp 𝕄 := bigSep Finset.univ fun k : Cl => reached ER (kcell (c, k)) 0
def dAt (c : Dev nD) : sProp 𝕄 := bigSep Finset.univ fun k : Cl => atPos ER (kcell (c, k)) 0 ∅ 0
def dSl (c : Dev nD) : sProp 𝕄 := bigSep Finset.univ fun s : Fin 3 => iprop(∃ ι, Release.slotInv ES ι (c, s) (rvAny c s))
def dRdr (c : Dev nD) : sProp 𝕄 := bigSep Finset.univ fun s : Fin 3 => Release.readerAt ES (c, s) 0

instance rvAny_storable (c : Dev nD) (s : Fin 3) : BI.Storable (upEmb : UEmb _ 𝕄) (rvAny (F := F) c s) := by unfold rvAny; infer_instance

instance dRch_persistent (c : Dev nD) : BI.Persistent (dRch (F := F) c) := by unfold dRch; infer_instance

/-- A device's share of what is minted, and the same with its cells' invariants allocated. -/
def G (c : Dev nD) : sProp 𝕄 :=
  iprop(dSt m c ∗ dRch c ∗ dAt c ∗ tBar c ∗ tCrd c ∗ tSnd c ∗ tRcv c ∗ dSl c ∗ dRdr c ∗ tWr c)
def G₁ (c : Dev nD) : sProp 𝕄 :=
  iprop(dInv m c ∗ dRch c ∗ dAt c ∗ tBar c ∗ tCrd c ∗ tSnd c ∗ tRcv c ∗ dSl c ∗ dRdr c ∗ tWr c)

theorem fin_range (n : ℕ) (Φ : ℕ → sProp 𝕄) : bigSep Finset.univ (fun j : Fin n => Φ j.val) = bigSep (Finset.Ico 0 n) Φ := by
  rw [← Finset.range_eq_Ico, ← Fin.map_valEmbedding_univ (n := n) |>.trans (Nat.Iio_eq_range n), bigSep_map]
  rfl

theorem fin_credits (Φ : ℕ → sProp 𝕄) : bigSep Finset.univ (fun i : Fin 29 => Φ (i.val + 3)) = bigSep (Finset.Ico 3 32) Φ := by
  have h : Finset.Ico 3 32 = (Finset.univ : Finset (Fin 29)).map ⟨fun i => i.val + 3, fun a b h => Fin.ext (Nat.add_right_cancel h)⟩ := by decide
  rw [h, bigSep_map]
  rfl

theorem toks_split : bigSep ringToks (fun x => (dutyTok ER x.1 x.2.1 x.2.2 : sProp 𝕄))
    = bigSep Finset.univ fun c : Dev nD => iprop(tBar c ∗ tCrd c ∗ tSnd c ∗ tRcv c) := by
  unfold ringToks
  rw [bigSep_map, bigSep_univ_prod]
  refine bigSep_congr fun c _ => ?_
  rw [bigSep_univ_sum, bigSep_univ_sum, bigSep_univ_prod]
  have e₀ : (bigSep Finset.univ fun a : Unit => (dutyTok ER (tokOf (c, .inl a)).1 (tokOf (c, .inl a)).2.1 (tokOf (c, .inl a)).2.2 : sProp 𝕄)) = tBar c :=
    bigSep_univ_eq_bigSepL [()] (by decide) (by decide) _
  have e₁ : (bigSep Finset.univ fun i : Fin 29 => (dutyTok ER (crdC c) 0 (i.val + 3) : sProp 𝕄)) = tCrd c := fin_credits fun i => dutyTok ER (crdC c) 0 i
  have e₂ : (bigSep Finset.univ fun j : Fin 32 => (dutyTok ER (sndC c (sl j.val)) (j.val / 3) 0 : sProp 𝕄)) = tSnd c := fin_range 32 fun j => dutyTok ER (sndC c (sl j)) (j / 3) 0
  have e₃ : (bigSep Finset.univ fun j : Fin 32 => (dutyTok ER (rcvC c (sl j.val)) (j.val / 3) 0 : sProp 𝕄)) = tRcv c := fin_range 32 fun j => dutyTok ER (rcvC c (sl j)) (j / 3) 0
  have e₄ : ∀ Φ : Bool → sProp 𝕄, bigSep Finset.univ Φ = iprop(Φ false ∗ Φ true) := fun Φ => bigSep_univ_eq_bigSepL [false, true] (by decide) (by decide) Φ
  rw [e₄, ← e₀, ← e₁, ← e₂, ← e₃]
  rfl

theorem cells_split (Φ : GSem nD τ sig → sProp 𝕄) :
    bigSep ringCells Φ = bigSep Finset.univ fun c : Dev nD => bigSep Finset.univ fun k : Cl => Φ (kcell (c, k)) := by
  unfold ringCells; rw [bigSep_map, bigSep_univ_prod]; rfl

/-- A device's write tokens, out of those of all slots and rounds. -/
theorem writes_split : bigSep ((Finset.univ : Finset (Dev nD × Fin 3)) ×ˢ Finset.range 11) (fun x => (Release.writeTok ES x.1 (x.2 + 1) : sProp 𝕄))
    ⊢ bigSep Finset.univ fun c : Dev nD => tWr c := by
  let e : Dev nD × Fin 32 ↪ (Dev nD × Fin 3) × ℕ := ⟨fun x => ((x.1, sl x.2.val), x.2.val / 3), fun a b h => by
    have h₁ : a.1 = b.1 := congrArg (fun y : (Dev nD × Fin 3) × ℕ => y.1.1) h
    have h₂ : a.2.val % 3 = b.2.val % 3 := congrArg (fun y : (Dev nD × Fin 3) × ℕ => y.1.2.val) h
    have h₃ : a.2.val / 3 = b.2.val / 3 := congrArg (fun y : (Dev nD × Fin 3) × ℕ => y.2) h
    exact Prod.ext h₁ (Fin.ext (by omega))⟩
  have hs : (Finset.univ : Finset (Dev nD × Fin 32)).map e ⊆ (Finset.univ : Finset (Dev nD × Fin 3)) ×ˢ Finset.range 11 := by
    intro y hy
    obtain ⟨x, -, rfl⟩ := Finset.mem_map.mp hy
    exact Finset.mem_product.mpr ⟨Finset.mem_univ _, Finset.mem_range.mpr (by show x.2.val / 3 < 11; have := x.2.isLt; omega)⟩
  have h : bigSep ((Finset.univ : Finset (Dev nD × Fin 32)).map e) (fun x => (Release.writeTok ES x.1 (x.2 + 1) : sProp 𝕄))
      = bigSep Finset.univ fun c : Dev nD => tWr c := by
    rw [bigSep_map, bigSep_univ_prod]
    exact bigSep_congr fun c _ => fin_range 32 fun j => Release.writeTok ES (c, sl j) (j / 3 + 1)
  exact h ▸ bigSep_subset hs

theorem slot_some (k : Dev nD × Fin 3) (ι : ℕ) :
    Release.slotInv ES ι k (rvAny (F := F) k.1 k.2) ⊢ (∃ ι, Release.slotInv ES ι k (rvAny k.1 k.2) : sProp 𝕄) := by
  iintro H; iexists ι; iexact H

/-- What is minted, dealt to the devices. -/
theorem fund_all : iprop(BI.own (ER (initOf ringCells ringToks)) ∗ BI.own (ES (Release.initSlots (Finset.univ : Finset (Dev nD × Fin 3)) 11)))
    ⊢ (|={Set.univ}=> bigSep Finset.univ (G m) : sProp 𝕄) := by
  iintro ⟨HX, HY⟩
  imod (Rounds.fund ER (Rd m) ringCells ringToks) $$ HX with ⟨Hst, Hr, Hat, Htok⟩
  imod (Release.slots_init ES (Finset.univ : Finset (Dev nD × Fin 3)) 11 (fun k => rvAny k.1 k.2)) $$ HY with ⟨%ιs, -, Hsl, Hrd, Hwr⟩
  imodintro
  have hs : bigSep Finset.univ (fun k : Dev nD × Fin 3 => Release.slotInv ES (ιs k) k (rvAny (F := F) k.1 k.2))
      ⊢ (bigSep Finset.univ fun c : Dev nD => dSl c : sProp 𝕄) := by
    have h : bigSep Finset.univ (fun k : Dev nD × Fin 3 => iprop(∃ ι, Release.slotInv ES ι k (rvAny (F := F) k.1 k.2)))
        = (bigSep Finset.univ fun c : Dev nD => dSl c : sProp 𝕄) := by
      rw [bigSep_univ_prod]
      rfl
    exact h ▸ bigSep_mono fun k _ => slot_some k (ιs k)
  have hr : bigSep Finset.univ (fun k : Dev nD × Fin 3 => Release.readerAt ES k 0)
      ⊢ (bigSep Finset.univ fun c : Dev nD => dRdr c : sProp 𝕄) := by
    refine Entails.of_eq ?_
    rw [bigSep_univ_prod]
    rfl
  ihave Hst := (Entails.of_eq (cells_split fun g => roundState ER (Rd m) g 0)) $$ Hst
  ihave Hr := (Entails.of_eq (cells_split (F := F) fun g => reached ER g 0)) $$ Hr
  ihave Hat := (Entails.of_eq (cells_split (F := F) fun g => atPos ER g 0 ∅ 0)) $$ Hat
  ihave Htok := (Entails.of_eq (toks_split (F := F))) $$ Htok
  ihave Hsl := hs $$ Hsl
  ihave Hrd := hr $$ Hrd
  ihave Hwr := (writes_split (F := F)) $$ Hwr
  have hG : iprop((bigSep Finset.univ fun c : Dev nD => dSt m c) ∗ (bigSep Finset.univ fun c : Dev nD => dRch c) ∗ (bigSep Finset.univ fun c : Dev nD => dAt c)
      ∗ (bigSep Finset.univ fun c : Dev nD => iprop(tBar c ∗ tCrd c ∗ tSnd c ∗ tRcv c))
      ∗ (bigSep Finset.univ fun c : Dev nD => dSl c) ∗ (bigSep Finset.univ fun c : Dev nD => dRdr c) ∗ (bigSep Finset.univ fun c : Dev nD => tWr c))
      ⊢ (bigSep Finset.univ (G m) : sProp 𝕄) := by
    unfold G
    simp only [bigSep_sep']
    iintro ⟨H1, H2, H3, ⟨H4, H5, H6, H7⟩, H8, H9, H10⟩
    iframe
  iapply hG
  isplitl [Hst]; · iexact Hst
  isplitl [Hr]; · iexact Hr
  isplitl [Hat]; · iexact Hat
  isplitl [Htok]; · iexact Htok
  isplitl [Hsl]; · iexact Hsl
  isplitl [Hrd]; · iexact Hrd
  iexact Hwr

end Cert.SwapIdeal

end
-- ==== Proof.Ideal.Deal.lean ====
/-
The launch's resources handed to the devices, and what a device starts and ends with.
-/
module

public import proofs.«01_k».proof.Proof.Ideal.Fund

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's own semaphores -/

def osem : Unit ⊕ (Bool × Fin 3) → SemLoc sig
  | .inl _ => .reg crdS
  | .inr (false, s) => .dma (sndS s)
  | .inr (true, s) => .dma (rcvS s)

theorem ownSemFacts : Pipeline.OwnSemFacts cfg0.spec osem := by decide

theorem over_bool (Φ : Bool → sProp 𝕄) : bigSep Finset.univ Φ = iprop(Φ false ∗ Φ true) :=
  bigSep_univ_eq_bigSepL [false, true] (by decide) (by decide) Φ
theorem over_two (Φ : Fin 2 → sProp 𝕄) : bigSep Finset.univ Φ = iprop(Φ 0 ∗ Φ 1) :=
  bigSep_univ_eq_bigSepL [0, 1] (by decide) (by decide) Φ
theorem over_unit (Φ : Unit → sProp 𝕄) : bigSep Finset.univ Φ = Φ () :=
  bigSep_univ_eq_bigSepL [()] (by decide) (by decide) Φ

/-- Something held for each of a device's cells. -/
theorem over_cells (Φ : Cl → sProp 𝕄) : bigSep Finset.univ Φ
    = iprop((Φ (.inl 0) ∗ Φ (.inl 1)) ∗ bigSep Finset.univ (fun s : Fin 3 => Φ (.inr (false, s))) ∗ bigSep Finset.univ (fun s : Fin 3 => Φ (.inr (true, s)))) := by
  rw [bigSep_univ_sum, bigSep_univ_prod, over_bool, over_two]
  rfl

theorem ownSems0_eq (c : Dev nD) : (Pipeline.ownSems0 (Ix := ℕ) (Name := ℕ) (U := UU) (Lvl := ℕ) (Val := Elt F) (τ := τ) osem c : sProp 𝕄)
    = iprop(semVal (crdC c) 0 ∗ bigSep Finset.univ (fun s : Fin 3 => semVal (sndC c s) 0) ∗ bigSep Finset.univ (fun s : Fin 3 => semVal (rcvC c s) 0)) := by
  unfold Pipeline.ownSems0
  rw [bigSep_univ_sum, bigSep_univ_prod, over_bool, over_unit]
  rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_cells (c : Dev nD) :
    iprop(Pipeline.ownSems0 (Ix := ℕ) (Name := ℕ) (U := UU) (Lvl := ℕ) (Val := Elt F) (τ := τ) osem c ∗ unscopedSems0 c)
      ⊢ (bigSep Finset.univ fun k : Cl => semVal (kcell (c, k)) 0 : sProp 𝕄) := by
  have e := over_cells (F := F) fun k => semVal (kcell (c, k)) 0
  rw [ownSems0_eq, unscopedSems0_eq, e]
  iintro ⟨⟨HC, HS, HR⟩, HB⟩
  isplitl [HB HC]
  · isplitl [HB]; · iexact HB
    iexact HC
  isplitl [HS]; · iexact HS
  iexact HR

/-! ## The cells' invariants, and the tokens handed to the devices that use them -/

theorem alloc_cells (c : Dev nD) :
    iprop((bigSep Finset.univ fun k : Cl => semVal (kcell (c, k)) 0) ∗ dSt m c) ⊢ (|={Set.univ}=> dInv m c : sProp 𝕄) := by
  unfold dSt dInv
  rw [← bigSep_sep']
  exact (bigSep_mono fun k _ => (Rounds.body_intro ER (Rd m) (kcell (c, k))).trans inv_alloc).trans (bigSep_fupd _ _)

theorem alloc_dev (c : Dev nD) :
    iprop(Pipeline.ownSems0 (Ix := ℕ) (Name := ℕ) (U := UU) (Lvl := ℕ) (Val := Elt F) (τ := τ) osem c ∗ unscopedSems0 c ∗ G m c)
      ⊢ (|={Set.univ}=> G₁ m c : sProp 𝕄) := by
  unfold G G₁
  iintro ⟨Hos, Hus, Hst, HG⟩
  ihave Hv := (sems0_cells (F := F) c) $$ [Hos Hus]
  · isplitl [Hos] <;> iassumption
  imod (alloc_cells m c) $$ [Hv Hst] with Hinv
  · isplitl [Hv] <;> iassumption
  imodintro
  isplitl [Hinv]; · iexact Hinv
  iexact HG

/-- What every device knows. -/
def Known : sProp 𝕄 :=
  iprop(bigSep Finset.univ (fun x : Dev nD × Cl => iprop(∃ κ, cellInv ER (Rd m) κ (kcell x)))
    ∗ bigSep Finset.univ (fun x : Dev nD × Fin 3 => iprop(∃ ι, Release.slotInv ES ι x (rvAny x.1 x.2)))
    ∗ bigSep Finset.univ (fun c : Dev nD => dRch c))

instance Known_persistent : BI.Persistent (Known (F := F) m) := by unfold Known; infer_instance

/-- What a device holds alone: its places, its own sending tokens, its partner's other tokens. -/
def Mine (c : Dev nD) : sProp 𝕄 :=
  iprop(dAt c ∗ tBar (peer c) ∗ tCrd (peer c) ∗ tSnd c ∗ tRcv (peer c) ∗ dRdr c ∗ tWr (peer c))

def G' (c : Dev nD) : sProp 𝕄 := iprop(Known m ∗ Mine c)

theorem regroup : bigSep Finset.univ (G₁ m) ⊢ (bigSep Finset.univ (G' m) : sProp 𝕄) := by
  have h₁ : iprop((bigSep Finset.univ fun c => dInv m c) ∗ (bigSep Finset.univ fun c => dRch c) ∗ (bigSep Finset.univ fun c => dSl c)) ⊢ (Known m : sProp 𝕄) := by
    unfold Known dInv dSl
    rw [← bigSep_univ_prod (fun x : Dev nD × Cl => iprop(∃ κ, cellInv ER (Rd m) κ (kcell x))),
      ← bigSep_univ_prod (fun x : Dev nD × Fin 3 => iprop(∃ ι, Release.slotInv ES ι x (rvAny (F := F) x.1 x.2)))]
    iintro ⟨H1, H2, H3⟩
    isplitl [H1]; · iexact H1
    isplitl [H3]; · iexact H3
    iexact H2
  have h₂ : iprop((bigSep Finset.univ fun c => dAt c) ∗ (bigSep Finset.univ fun c => tBar c) ∗ (bigSep Finset.univ fun c => tCrd c) ∗ (bigSep Finset.univ fun c => tSnd c)
      ∗ (bigSep Finset.univ fun c => tRcv c) ∗ (bigSep Finset.univ fun c => dRdr c) ∗ (bigSep Finset.univ fun c => tWr c))
      ⊢ (bigSep Finset.univ fun c : Dev nD => Mine c : sProp 𝕄) := by
    have e₁ := bigSep_univ_equiv pairs (fun c : Dev nD => tBar (F := F) c)
    have e₂ := bigSep_univ_equiv pairs (fun c : Dev nD => tCrd (F := F) c)
    have e₃ := bigSep_univ_equiv pairs (fun c : Dev nD => tRcv (F := F) c)
    have e₄ := bigSep_univ_equiv pairs (fun c : Dev nD => tWr (F := F) c)
    unfold Mine
    simp only [bigSep_sep']
    rw [e₁, e₂, e₃, e₄]
    exact BI.Entails.refl _
  have h₃ : iprop(Known m ∗ bigSep Finset.univ fun c : Dev nD => Mine c) ⊢ (bigSep Finset.univ (G' m) : sProp 𝕄) := by
    unfold G'
    rw [bigSep_sep']
    exact sep_mono_left (BI.bigSep_of_persistent Finset.univ (Known m))
  unfold G₁
  simp only [bigSep_sep']
  iintro ⟨H1, H2, H3, H4, H5, H6, H7, H8, H9, H10⟩
  iapply h₃
  isplitl [H1 H2 H8]
  · iapply h₁
    isplitl [H1]; · iexact H1
    isplitl [H2]; · iexact H2
    iexact H8
  iapply h₂
  isplitl [H3]; · iexact H3
  isplitl [H4]; · iexact H4
  isplitl [H5]; · iexact H5
  isplitl [H6]; · iexact H6
  isplitl [H7]; · iexact H7
  isplitl [H9]; · iexact H9
  iexact H10

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_dev m c).trans (bigSep_fupd _ _)).trans (BI.fupd_mono (regroup m))

/-! ## What a device may spend on waiting -/

theorem O₀_at (d : Dev nD) (g : GSem nD τ sig) (h : O₀ (peer d) g ≠ 0) : g.1 = (d.tc : Thread nD τ) := by
  obtain ⟨u, hu⟩ : ∃ u, 0 < O₀ (peer d) g u := by
    by_contra hn
    exact h (Finsupp.ext fun u => Nat.eq_zero_of_not_pos fun hp => hn ⟨u, hp⟩)
  unfold O₀ at hu
  rw [Pi.add_apply, Finsupp.add_apply] at hu
  rcases Nat.add_pos_iff_pos_or_pos.mp hu with h | h
  · rcases Ow_pos h with ⟨-, -, s, rfl⟩ | ⟨-, -, rfl⟩
    · rw [peer_peer]
    · rw [peer_peer]
  · rw [(tally_pos h).1, peer_peer]

theorem launch_eq (c : Dev nD) : (Pipeline.launchCred O₀ c : sProp 𝕄) = cred (O₀ (peer c)) :=
  Pipeline.launchCred_of_sum O₀ (fun c => O₀ (peer c)) (Equiv.sum_comp pairs O₀).symm O₀_at c

theorem creds (c : Dev nD) : (Pipeline.launchCred O₀ c : sProp 𝕄)
    ⊢ iprop(bigSep (Finset.Ico 0 32) (rcP c) ∗ bigSep (Finset.Ico 3 32) (ciP c) ∗ cred (tallyAt (barC c) 0 1)) := by
  have e₁ : (cred (owR (peer c) 0) : sProp 𝕄) = bigSep (Finset.Ico 0 32) (rcP c) := by
    unfold owR
    rw [peer_peer]
    exact Pipeline.cred_finsetSum _ _
  have e₂ : (cred (owC (peer c) 3) : sProp 𝕄) = bigSep (Finset.Ico 3 32) (ciP c) := by
    unfold owC
    rw [peer_peer]
    exact Pipeline.cred_finsetSum _ _
  have e₃ := cred_add (Name := ℕ) (U := UU) (Lvl := ℕ) (Val := Elt F) (owR (peer c) 0 + owC (peer c) 3) (tallyAt (barC (peer (peer c))) 0 1)
  have e₄ := cred_add (Name := ℕ) (U := UU) (Lvl := ℕ) (Val := Elt F) (owR (peer c) 0) (owC (peer c) 3)
  rw [launch_eq, ← e₁, ← e₂]
  unfold O₀ Ow
  rw [peer_peer] at e₃ ⊢
  iintro H
  ihave H := e₃.1 $$ H
  icases H with ⟨H, HB⟩
  ihave H := e₄.1 $$ H
  icases H with ⟨HR, HC⟩
  isplitl [HR]; · iexact HR
  isplitl [HC]; · iexact HC
  iexact HB

/-! ## The first step's holdings -/

/-- What a device starts from, but for its scratch buffers. -/
def start (c : Dev nD) : sProp 𝕄 :=
  iprop(World m ∗ dRch c ∗ dRch (peer c) ∗ Mine c ∗ bigSep (Finset.Ico 0 32) (rcP c) ∗ bigSep (Finset.Ico 3 32) (ciP c) ∗ cred (tallyAt (barC c) 0 1))

theorem rch_at (c : Dev nD) : bigSep Finset.univ (fun c : Dev nD => dRch c) ⊢ (dRch c : sProp 𝕄) := bigSep_elim (Finset.mem_univ c)
theorem rch_cell (c : Dev nD) (k : Cl) : dRch c ⊢ (reached ER (kcell (c, k)) 0 : sProp 𝕄) := bigSep_elim (Finset.mem_univ k)
theorem rch_crd : bigSep Finset.univ (fun c : Dev nD => dRch c) ⊢ (bigSep Finset.univ fun c : Dev nD => reached ER (crdC c) 0 : sProp 𝕄) :=
  bigSep_mono fun c _ => rch_cell c (.inl 1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  unfold G' Known start World
  iintro ⟨-, #Hlev, Hcr, -, ⟨#HI, #HS, #HR⟩, HM⟩
  ihave Hc := (creds (F := F) c) $$ Hcr
  imodintro
  isplitl
  · isplitr
    · isplitr; · iexact Hlev
      isplitr; · iexact HI
      isplitr; · iexact HS
      iapply (rch_crd (F := F)); iexact HR
    isplitr; · iapply (rch_at (F := F) c); iexact HR
    isplitr; · iapply (rch_at (F := F) (peer c)); iexact HR
    isplitl [HM]; · iexact HM
    iexact Hc
  · iempintro

theorem third {j : ℕ} (h : j ∈ Finset.Ico 0 (0 + 3)) : j / 3 = 0 := Nat.div_eq_of_lt (Finset.mem_Ico.mp h).2

theorem places (c : Dev nD) : dAt c ⊢ (iprop(bigSep (Finset.Ico 0 3) (sndP c) ∗ bigSep (Finset.Ico 0 3) (rcvP c) ∗ crdPos c 3 ∗ atPos ER (barC c) 0 ∅ 0) : sProp 𝕄) := by
  have e := over_cells (F := F) fun k => atPos ER (kcell (c, k)) 0 ∅ 0
  have e₁ : bigSep (Finset.Ico 0 3) (sndP (F := F) c) = _ := three_of 0 (sndP (F := F) c) (fun s => atPos ER (sndC c s) 0 ∅ 0) (fun j hj => by unfold sndP; rw [third hj])
  have e₂ : bigSep (Finset.Ico 0 3) (rcvP (F := F) c) = _ := three_of 0 (rcvP (F := F) c) (fun s => atPos ER (rcvC c s) 0 ∅ 0) (fun j hj => by unfold rcvP; rw [third hj])
  rw [e₁, e₂]
  unfold dAt crdPos
  rw [e]
  iintro ⟨⟨HB, HC⟩, HS, HR⟩
  isplitl [HS]; · iexact HS
  isplitl [HR]; · iexact HR
  isplitl [HC]
  · iexists ∅
    isplitr; · ipureintro; exact ⟨Finset.empty_subset _, Nat.le_refl 0⟩
    isplitl [HC]; · iexact HC
    rw [bigSep_empty]
    iempintro
  iexact HB

theorem readers (c : Dev nD) : dRdr c ⊢ (bigSep (Finset.Ico 0 3) (rdP c) : sProp 𝕄) := by
  have e₁ : bigSep (Finset.Ico 0 3) (rdP (F := F) c) = _ := three_of 0 (rdP (F := F) c) (fun s => Release.readerAt ES (c, s) 0) (fun j hj => by unfold rdP; rw [third hj])
  rw [e₁]
  exact BI.Entails.refl _

theorem reacheds (c : Dev nD) : dRch c ⊢ (iprop(bigSep (Finset.range 3) (sndR c) ∗ bigSep (Finset.range 3) (rcvR c)) : sProp 𝕄) := by
  have e := over_cells (F := F) fun k => reached ER (kcell (c, k)) 0
  have e₁ : bigSep (Finset.Ico 0 3) (sndR (F := F) c) = _ := three_of 0 (sndR (F := F) c) (fun s => reached ER (sndC c s) 0) (fun j hj => by unfold sndR; rw [third hj])
  have e₂ : bigSep (Finset.Ico 0 3) (rcvR (F := F) c) = _ := three_of 0 (rcvR (F := F) c) (fun s => reached ER (rcvC c s) 0) (fun j hj => by unfold rcvR; rw [third hj])
  rw [Finset.range_eq_Ico, e₁, e₂]
  unfold dRch
  rw [e]
  iintro ⟨-, HS, HR⟩
  isplitl [HS]; · iexact HS
  iexact HR

theorem tokens (c : Dev nD) : iprop(tSnd c ∗ tRcv (peer c) ∗ tWr (peer c)) ⊢ (bigSep (Finset.Ico 0 32) (tokP c) : sProp 𝕄) := by
  have e : bigSep (Finset.Ico 0 32) (tokP (F := F) c) = iprop(tSnd c ∗ tRcv (peer c) ∗ tWr (peer c)) := by
    unfold tokP tSnd tRcv tWr
    rw [bigSep_sep', bigSep_sep']
  rw [e]

theorem phi0_intro (c : Dev nD) :
    iprop(start m c ∗ Pipeline.prefHeld Pipeline.Prefetch.none c (fun _ => fullShare.right) (fun k => k.elim0) ∗ Pipeline.scopedRest cfg0.spec c)
      ⊢ ((dats m ρ 0 c).Φ 0 : sProp 𝕄) := by
  have e : (Pipeline.scopedRest (Ix := ℕ) (Name := ℕ) (U := UU) (Lvl := ℕ) (Val := Elt F) cfg0.spec c : sProp 𝕄) = Scr c := scopedRest0_eq c
  rw [show (dats m ρ 0 c).Φ 0 = PhiAt m c 0 from rfl, phi_start, e]
  unfold start Mine Start
  iintro ⟨⟨HW, #Hr, #Hrp, ⟨Hat, Hb, Hc, Hs, Hv, Hrd, Hw⟩, Hrc, Hci, Hcb⟩, -, Hscr⟩
  ihave Hsc := (of_scr (F := F) c) $$ Hscr
  icases Hsc with ⟨Hfr, Hmn⟩
  ihave Hp := (places (F := F) c) $$ Hat
  icases Hp with ⟨HsP, HrP, HcP, HbP⟩
  ihave #Hq := (reacheds (F := F) c) $$ Hr
  icases Hq with ⟨#HsR, #HrR⟩
  ihave Hrd := (readers (F := F) c) $$ Hrd
  ihave Ht := (tokens (F := F) c) $$ [Hs Hv Hw]
  · isplitl [Hs]; · iexact Hs
    isplitl [Hv]; · iexact Hv
    iexact Hw
  isplitl [HW]; · iexact HW
  isplitl [HsP]; · iexact HsP
  isplitr; · iexact HsR
  isplitl [HrP]; · iexact HrP
  isplitr; · iexact HrR
  isplitl [Hrd]; · iexact Hrd
  isplitl [HcP]; · iexact HcP
  isplitl [Ht]; · iexact Ht
  isplitl [Hfr]; · iexact Hfr
  isplitl [Hrc]; · iexact Hrc
  isplitl [Hci]; · iexact Hci
  isplitl [Hc]; · unfold tCrd; iexact Hc
  isplitl [Hmn]; · iexact Hmn
  isplitl [HbP]; · iexact HbP
  isplitl [Hb]; · unfold tBar; iexact Hb
  isplitr; · iapply (rch_cell (F := F) (peer c) (.inl 0)); iexact Hrp
  iexact Hcb

theorem phi1_exit (c : Dev nD) :
    (dats m ρ 0 c).Φ (Fin.last cfg0.N) ⊢ (iprop(unscopedSems0 c ∗ Pipeline.ownSems0 osem c ∗ Pipeline.scopedRest cfg0.spec c) : sProp 𝕄) := by
  have e : (Pipeline.scopedRest (Ix := ℕ) (Name := ℕ) (U := UU) (Lvl := ℕ) (Val := Elt F) cfg0.spec c : sProp 𝕄) = Scr c := scopedRest0_eq c
  have e' : (dats m ρ 0 c).Φ (Fin.last cfg0.N) = PhiAt m c 34 := congrArg (PhiAt m c) N_0
  rw [e', phi_last, e, ownSems0_eq, unscopedSems0_eq]
  unfold Exit
  iintro ⟨HB, HC, HS, HR, Hscr⟩
  isplitl [HB]; · iexact HB
  isplitl [HC HS HR]
  · isplitl [HC]; · iexact HC
    isplitl [HS]; · iexact HS
    iexact HR
  iexact Hscr

end Cert.SwapIdeal

end
-- ==== Proof.Ideal.Run.lean ====
/-
The run of the kernel on all devices.
-/
module

public import proofs.«01_k».proof.Proof.Ideal.Deal
public import Idealize.ShloMosaic.Lib.Pipeline.CollectiveSegs

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem owed_some (c : Dev nD) (k : ℕ) : owedAt c k = O₀ c ∨ ∃ n i, owedAt c k = Ow c n i := by
  by_cases h : k = 0
  · subst h; exact .inl (owed_start c)
  · exact .inr ⟨_, _, owed_mid c h⟩

theorem kd_stage (q : DmaSem sig) (h : q.val < 4) : kd (.dma q) = .none := by
  show kdDma q = _
  unfold kdDma
  rw [dif_neg (by omega), dif_neg (by omega)]

theorem minted_split (a : URounds (GSem nD τ sig) ℕ) (b : Release.USlots (Dev nD × Fin 3)) : (BI.own ((embR : Emb (URounds (GSem nD τ sig) ℕ × Release.USlots (Dev nD × Fin 3)) 𝕄) (a, b)) : sProp 𝕄) ⊢ (iprop(BI.own (ER a) ∗ BI.own (ES b)) : sProp 𝕄) := by
  unfold ER ES
  exact own_pair_emb (embR : Emb (URounds (GSem nD τ sig) ℕ × Release.USlots (Dev nD × Fin 3)) 𝕄) a b

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (kd_stage _ (by fin_cases w <;> fin_cases s <;> decide)) _ (owed_some c t.val)

/-- What each device's array ends with. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, the kernel on all eight devices terminates, with the
    result arrays at the computed contents, the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun c => (congrArg (owedAt c) N_0).trans (owed_last c))
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (minted_split _ _) $$ HX
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) :=
  (dats (F := F) m ρ 0 c).arrAt_in (0 : Fin 2) rfl _

end Cert.SwapIdeal

end
-- ==== Proof.Ideal.Value.lean ====
/-
What the kernel computes over the extended reals: on every device, its own block plus its partner's.
-/
module

public import proofs.«01_k».proof.Proof.Ideal.Run
public import Idealize.ShloMosaic.Lib.Pipeline.ValueKit.Geometry
public import Idealize.ShloMosaic.Lib.Pipeline.Value
public import Idealize.ShloMosaic.PureOps.Ideal

@[expose] public section

set_option maxRecDepth 16384

noncomputable section

namespace Cert.SwapIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Narrowing, widening and the reshapes are the identity here: what is stored is the sum of the two chunks. -/
theorem sum_apply (a b : Vec Ideal S1024x1024 .f32) (y : S1024x1024.Idx) :
    k0_pay1 (F := Ideal) (k0_pay2 a) (k0_pay2 b) y = (a y + b y : EReal) := by
  simp only [k0_pay1, k0_pay2, shapeCast_shapeCast, shapeCast_self]
  rfl

theorem in_index : ∀ t : Fin grid0.N, t.val < 32 → win0_0.index t = ![t.val, 0] := by decide +kernel
theorem out_index : ∀ t : Fin grid0.N, 2 ≤ t.val → win0_1.index t = ![t.val - 2, 0] := by decide +kernel

/-- Chunk `t - 2` of a device's block lies where the output window's block at point `t` does. -/
theorem xb_apply (c : Dev nD) (t : Fin cfg0.N) (h2 : 2 ≤ t.val) (y : S1024x1024.Idx) :
    xb m c (t.val - 2) y = m ((c : Thread nD τ).loc main_arg0) ((win0_1.blk t).view.emb y) := by
  have ht : t.val < 34 := Nat.lt_of_lt_of_eq t.isLt N_0
  have e : (t.val - 2) % 34 = t.val - 2 := Nat.mod_eq_of_lt (by omega)
  have e0 := in_index ⟨t.val - 2, by rw [show grid0.N = 34 from N_0]; omega⟩ (by show t.val - 2 < 32; omega)
  have e1 := out_index t h2
  unfold xb
  blk_simp [iblk]
  refine congrArg (m ((c : Thread nD τ).loc main_arg0)) ?_
  blk_ext [e0, e1, e]

/-- A device's block of the argument. -/
def xarr (c : Dev nD) : S32768x1024.Idx → EReal := m ((c : Thread nD τ).loc main_arg0)

/-- What the result array of device `c` holds at the end: its block and its partner's, added. -/
def val (c : Dev nD) : Buf (Elt Ideal) ((c : Thread nD τ).loc main_v1) := fun i =>
  xarr m c i + xarr m (peer c) i

theorem finalA_out (c : Dev nD) : finalA m ρ c (1 : Fin 2) = val m c := by
  refine (dats (F := Ideal) m ρ 0 c).arrAt_eq_of_covers (1 : Fin 2) (val m c) (by decide +kernel) fun t hf y => ?_
  have h2 : 2 ≤ t.val := by
    by_contra hlt
    have := flush1 t (by omega)
    exact Bool.noConfusion (this.symm.trans hf)
  blk_simp
  show outv m c (t.val - 2) y = _
  unfold outv wb
  refine (sum_apply _ _ y).trans ?_
  rw [xb_apply m c t h2 y, xb_apply m (peer c) t h2 y]
  rfl

end Cert.SwapIdeal

end
-- ==== Proof.Ideal.Reference.lean ====
/-
The reference over the extended reals, and what the kernel computes from the blocks of its argument.
-/
module

public import proofs.«01_k».proof.Defs
public import proofs.«01_k».proof.Proof.Gen.ReferenceIdeal.Run
public import proofs.«01_k».proof.Proof.Ideal.Value
public import Idealize.ShloMosaic.Lib.Pointwise.Reduce
public import Idealize.ShloMosaic.Lib.Pointwise.Index

@[expose] public section

noncomputable section

namespace Cert.SwapIdeal

open Idealize.ShloMosaic Idealize.ShloMosaic.TcCoe Idealize.SL.Sem

/-- The whole argument, one device's block of it, and the argument as its two halves. -/
abbrev Whole : Shape := ⟨2, ![65536, 1024]⟩
abbrev Part : Shape := ⟨2, ![32768, 1024]⟩
abbrev Halves : Shape := ⟨3, ![2, 32768, 1024]⟩

/-- Element `i` of half `k` of the whole array. -/
def half (k : Fin 2) (i : Part.Idx) : Whole.Idx :=
  ix2 (⟨k.val * 32768 + (i 0).val, by have := k.isLt; have h : (i 0).val < 32768 := (i 0).isLt; omega⟩ : Fin 65536) (⟨(i 1).val, (i 1).isLt⟩ : Fin 1024)

/-- The reference: the array's two halves added. -/
theorem reference_apply (x : FVec Ideal Whole .f32)
    (hs : Shape.ShapeCasts Whole Halves) (hr : Shape.ReducesTo Halves [0] Part)
    (hu : 0 < (⟨0, ![]⟩ : Shape).numel) (i : Part.Idx) :
    Host.reduceAdd (F := Ideal) (φ := .f32) (shapeCast Halves x hs) (constant ⟨0, ![]⟩ .f32 0x00000000#32) hr hu i
      = (x (half 0 i) + x (half 1 i) : EReal) := by
  have hx : ∀ k : Fin 2, shapeCast Halves x hs
      (ix3 k ⟨(i 0).val, (i 0).isLt⟩ ⟨(i 1).val, (i 1).isLt⟩) = x (half k i) := fun k =>
    shapeCast_apply x hs _ _ (by
      rw [Shape.rowMajor_val_two, Shape.rowMajor_val_three]
      show (k.val * 32768 + (i 0).val) * 1024 + (i 1).val = (k.val * 32768 + (i 0).val) * 1024 + (i 1).val
      rfl)
  rw [Host.reduceAdd_apply, Ideal.hostReduceAdd_def]
  refine (Ideal.hostReduceAdd_r3_a0 hr _ _ i).trans ?_
  rw [Fin.sum_univ_two]
  refine (congrArg₂ (· + ·) (Ideal.ofBits_zero_f32 : constant (F := Ideal) ⟨0, ![]⟩ .f32 0x00000000#32 (Shape.Idx.first hu) = (0 : EReal))
    (congrArg₂ (· + ·) (hx 0) (hx 1))).trans ?_
  exact zero_add _

theorem mesh_row : ∀ c : Fin 8, Layout.meshLin [2, 2, 2] c.val [2] = c.val % 2 := by decide

/-- Device `c` holds the half of its last mesh coordinate. -/
theorem block_apply {α : Type} (c : Fin 8) (x : Whole.Idx → α) (i : Part.Idx) :
    (Layout.blockN Part Whole (Layout.meshBlock [2, 2, 2] ![[2], []] c) x : Part.Idx → α) i = x (half ⟨c.val % 2, Nat.mod_lt _ (by decide)⟩ i) := by
  rw [Layout.blockN_apply]
  refine congrArg x (Shape.idx_ext₂ ?_ ?_)
  · rw [Layout.TilesN.idx_val]
    show Layout.meshLin [2, 2, 2] c.val [2] * 32768 + (i 0).val = c.val % 2 * 32768 + (i 0).val
    rw [mesh_row]
  · rw [Layout.TilesN.idx_val]
    show 0 * 1024 + (i 1).val = (i 1).val
    omega

theorem peer_half : ∀ c : Dev KernelIdeal.nD, (c.val % 2 = 0 ∧ (peer c).val % 2 = 1) ∨ (c.val % 2 = 1 ∧ (peer c).val % 2 = 0) := by decide

/-- On every device the kernel computes the sum of the two halves. -/
theorem val_half (m : (ℓ : Loc KernelIdeal.nD KernelIdeal.τ KernelIdeal.sig) → Buf (Elt Ideal) ℓ) (x : Whole.Idx → EReal)
    (hm : ∀ c : Dev KernelIdeal.nD, xarr m c = Layout.blockN Part Whole (Layout.meshBlock [2, 2, 2] ![[2], []] c) x)
    (c : Dev KernelIdeal.nD) (i : Part.Idx) : val m c i = (x (half 0 i) + x (half 1 i) : EReal) := by
  have h : ∀ d : Dev KernelIdeal.nD, xarr m d i = x (half ⟨d.val % 2, Nat.mod_lt _ (by decide)⟩ i) := fun d =>
    (congrFun (hm d) i).trans (block_apply d x i)
  have h0 : ∀ d : Dev KernelIdeal.nD, d.val % 2 = 0 → xarr m d i = x (half 0 i) := fun d hd =>
    (h d).trans (congrArg (fun k => x (half k i)) (Fin.ext hd))
  have h1 : ∀ d : Dev KernelIdeal.nD, d.val % 2 = 1 → xarr m d i = x (half 1 i) := fun d hd =>
    (h d).trans (congrArg (fun k => x (half k i)) (Fin.ext hd))
  show xarr m c i + xarr m (peer c) i = _
  rcases peer_half c with ⟨a, b⟩ | ⟨a, b⟩
  · rw [h0 c a, h1 _ b]
  · rw [h1 c a, h0 _ b, add_comm]

end Cert.SwapIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Ideal.Value
public import proofs.«01_k».proof.Proof.Ideal.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed ends, leaves its argument alone and every counter at zero. -/
theorem frame_kernel : Cert.quiescent_Kernel (hKernel := Cert.Kernel.Gen.facts) := fun m g _ =>
  (θ_run Cert.Kernel.defs _ _).mono (fun _ h => ⟨fun c => (h.1 c (0 : Fin 2)).trans (Cert.SwapBits.finalA_x m g c), h.2⟩)
    (Cert.SwapBits.run_main (F := Bits) m g)

/-- So does the kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c (0 : Fin 2)).trans (Cert.SwapIdeal.finalA_x m g c), h.2⟩)
    (Cert.SwapIdeal.run_main (F := Ideal) m g)

/-- And the reference. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is the reference's. -/
theorem same_result : Cert.algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono (fun _ h c =>
      ⟨((h.1 c (1 : Fin 2)).trans (Cert.SwapIdeal.finalA_out m g c)).trans (funext fun i =>
          (Cert.SwapIdeal.val_half m _ hm c i).trans (Cert.SwapIdeal.reference_apply _ _ _ _ i).symm),
        (h.1 c (0 : Fin 2)).trans (Cert.SwapIdeal.finalA_x m g c)⟩)
      (Cert.SwapIdeal.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, same_result⟩

end Cert.Proof

end
